-- ==== Defs.lean ====
def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_weights_finite [hPre_weights_finite : Cert.Pre_weights_finite.Facts] (m : (ℓ : Loc Cert.InProjIdeal.nD Cert.InProjIdeal.τ Cert.InProjIdeal.sig) → Buf (Elt Ideal) ℓ) : Prop :=
  ∀ c : Dev Cert.InProjIdeal.nD,
    (Cert.Pre_weights_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_weights_finite [hPre_weights_finite : Cert.Pre_weights_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_weights_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_memory_apart [hPre_memory_apart : Cert.Pre_memory_apart.Facts] (m : (ℓ : Loc Cert.PostIdeal.nD Cert.PostIdeal.τ Cert.PostIdeal.sig) → Buf (Elt Ideal) ℓ) : Prop :=
  ∀ c : Dev Cert.PostIdeal.nD,
    (Cert.Pre_memory_apart.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_memory_apart [hPre_memory_apart : Cert.Pre_memory_apart.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_memory_apart.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12)) (m ((c.tc : Thread Cert.PostRefIdeal.nD Cert.PostRefIdeal.τ).loc Cert.PostRefIdeal.main_arg13))) = (fun _ => 1#1)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_weights_finite [hInProjIdeal : Cert.InProjIdeal.Facts] [hPre_weights_finite : Cert.Pre_weights_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_weights_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjRefIdeal_pre_weights_finite [hInProjRefIdeal : Cert.InProjRefIdeal.Facts] [hPre_weights_finite : Cert.Pre_weights_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_weights_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostIdeal_pre_memory_apart [hPostIdeal : Cert.PostIdeal.Facts] [hPre_memory_apart : Cert.Pre_memory_apart.Facts] : Prop :=
  ∀ (m : (ℓ : Loc Cert.PostIdeal.nD Cert.PostIdeal.τ Cert.PostIdeal.sig) → Buf (Elt Ideal) ℓ) (g : Dev Cert.PostIdeal.nD → PrngReg), Pre_PostIdeal_memory_apart m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_PostRefIdeal_pre_memory_apart [hPostRefIdeal : Cert.PostRefIdeal.Facts] [hPre_memory_apart : Cert.Pre_memory_apart.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_memory_apart m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def preserves_Experts_ExpertsIdeal : Prop :=
  True

def algebraic_ExpertsIdeal_ExpertsRefIdeal_pre_routed [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_routed m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v267) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_InProj_InProjIdeal : Prop :=
  True

def algebraic_InProjIdeal_InProjRefIdeal_pre_weights_finite [hInProjIdeal : Cert.InProjIdeal.Facts] [hInProjRefIdeal : Cert.InProjRefIdeal.Facts] [hPre_weights_finite : Cert.Pre_weights_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_weights_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v33) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v264) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Post_PostIdeal : Prop :=
  True

def algebraic_PostIdeal_PostRefIdeal_pre_memory_apart [hPostIdeal : Cert.PostIdeal.Facts] [hPostRefIdeal : Cert.PostRefIdeal.Facts] [hPre_memory_apart : Cert.Pre_memory_apart.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_memory_apart m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v11_0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v11_0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v81) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def Claim : Prop :=
  ∃ (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hConv : Cert.Conv.Facts) (hConvIdeal : Cert.ConvIdeal.Facts) (hConvRefIdeal : Cert.ConvRefIdeal.Facts) (hPost : Cert.Post.Facts) (hPostIdeal : Cert.PostIdeal.Facts) (hPostRefIdeal : Cert.PostRefIdeal.Facts) (hPre_experts_exist : Cert.Pre_experts_exist.Facts) (hPre_routed : Cert.Pre_routed.Facts) (hPre_weights_finite : Cert.Pre_weights_finite.Facts) (hPre_memory_apart : Cert.Pre_memory_apart.Facts),
    quiescent_Experts (hExperts := hExperts) (hPre_experts_exist := hPre_experts_exist)
    ∧ quiescent_ExpertsIdeal (hExpertsIdeal := hExpertsIdeal) (hPre_experts_exist := hPre_experts_exist)
    ∧ quiescent_ExpertsIdeal_pre_routed (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_InProj (hInProj := hInProj)
    ∧ quiescent_InProjIdeal (hInProjIdeal := hInProjIdeal)
    ∧ quiescent_InProjIdeal_pre_weights_finite (hInProjIdeal := hInProjIdeal) (hPre_weights_finite := hPre_weights_finite)
    ∧ quiescent_InProjRefIdeal (hInProjRefIdeal := hInProjRefIdeal)
    ∧ quiescent_InProjRefIdeal_pre_weights_finite (hInProjRefIdeal := hInProjRefIdeal) (hPre_weights_finite := hPre_weights_finite)
    ∧ quiescent_Conv (hConv := hConv)
    ∧ quiescent_ConvIdeal (hConvIdeal := hConvIdeal)
    ∧ quiescent_ConvRefIdeal (hConvRefIdeal := hConvRefIdeal)
    ∧ quiescent_Post (hPost := hPost)
    ∧ quiescent_PostIdeal (hPostIdeal := hPostIdeal)
    ∧ quiescent_PostIdeal_pre_memory_apart (hPostIdeal := hPostIdeal) (hPre_memory_apart := hPre_memory_apart)
    ∧ quiescent_PostRefIdeal (hPostRefIdeal := hPostRefIdeal)
    ∧ quiescent_PostRefIdeal_pre_memory_apart (hPostRefIdeal := hPostRefIdeal) (hPre_memory_apart := hPre_memory_apart)
    ∧ preserves_Experts_ExpertsIdeal
    ∧ algebraic_ExpertsIdeal_ExpertsRefIdeal_pre_routed (hExpertsIdeal := hExpertsIdeal) (hExpertsRefIdeal := hExpertsRefIdeal) (hPre_routed := hPre_routed)
    ∧ preserves_InProj_InProjIdeal
    ∧ algebraic_InProjIdeal_InProjRefIdeal_pre_weights_finite (hInProjIdeal := hInProjIdeal) (hInProjRefIdeal := hInProjRefIdeal) (hPre_weights_finite := hPre_weights_finite)
    ∧ preserves_Conv_ConvIdeal
    ∧ algebraic_ConvIdeal_ConvRefIdeal (hConvIdeal := hConvIdeal) (hConvRefIdeal := hConvRefIdeal)
    ∧ preserves_Post_PostIdeal
    ∧ algebraic_PostIdeal_PostRefIdeal_pre_memory_apart (hPostIdeal := hPostIdeal) (hPostRefIdeal := hPostRefIdeal) (hPre_memory_apart := hPre_memory_apart)
-- ==== Pre_experts_exist.lean ====
abbrev S88 : Shape := ⟨1, ![88]⟩
abbrev S22528x1152 : Shape := ⟨2, ![22528, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : IVec S88 32) (main_arg1 : IVec S88 32) (main_arg2 : IVec S88 32) (main_arg3 : FVec F S22528x1152 .f32) (main_arg4 : FVec F S16x1024x512 .bf16) (main_arg5 : FVec F S16x1024x512 .bf16) (main_arg6 : FVec F S16x512x1024 .bf16) : IVec S_ 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 16#32
  let main_v2 : IVec S88 32 := broadcastInDim S88 ![] bcast_S_S88 main_c_0
  let main_v3 : IVec S88 1 := cmpi .slt main_arg0 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg1 main_v6
  let main_c_3 : IVec S_ 32 := constantI S_ 32 16#32
  let main_v8 : IVec S88 32 := broadcastInDim S88 ![] bcast_S_S88 main_c_3
  let main_v9 : IVec S88 1 := cmpi .slt main_arg1 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  main_v12
-- ==== Pre_memory_apart.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1x1024 : Shape := ⟨2, ![1, 1024]⟩
abbrev S1024x256 : Shape := ⟨2, ![1024, 256]⟩
abbrev S1x256 : Shape := ⟨2, ![1, 256]⟩
abbrev S4096x256 : Shape := ⟨2, ![4096, 256]⟩
abbrev S256x1024 : Shape := ⟨2, ![256, 1024]⟩
abbrev S128x1024 : Shape := ⟨2, ![128, 1024]⟩
abbrev S128x1 : Shape := ⟨2, ![128, 1]⟩
abbrev S_ : Shape := ⟨0, ![]⟩

class Facts : Prop where
  bcast_S_S4096x256 : S_.BroadcastsInDim S4096x256 (![] : Fin 0 → Fin S4096x256.rank)
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1x256 : S_.BroadcastsInDim S1x256 (![] : Fin 0 → Fin S1x256.rank)
  reducesTo_S1x256_S_d0_1 : S1x256.ReducesTo [0, 1] S_
  reducesTo_S4096x256_S_d0_1 : S4096x256.ReducesTo [0, 1] S_

variable [Facts]

def fn_part2 {F : FTy → Type} [FloatOps F] (main_v8 : IVec S4096x256 1) (main_v9 : FVec F S4096x256 .f32) (main_v10 : FVec F S4096x256 .f32) (main_v31 : IVec S_ 1) (main_v33 : IVec S4096x256 1) (main_cst_11 : FVec F S_ .f32) : IVec S_ 1 :=
  let main_v34 : FVec F S4096x256 .f32 := broadcastInDim S4096x256 ![] bcast_S_S4096x256 main_cst_11
  let main_v35 : IVec S4096x256 1 := cmpf .olt main_v9 main_v34
  let main_v36 : IVec S4096x256 1 := andi main_v33 main_v35
  let main_c_12 : IVec S_ 1 := constantI S_ 1 1#1
  let main_v37 : IVec S_ 1 := (fun x v => Host.reduce IntOp.andi x v reducesTo_S4096x256_S_d0_1 h_S_) main_v36 main_c_12
  let main_v38 : IVec S_ 1 := andi main_v31 main_v37
  let main_cst_13 : FVec F S_ .f32 := constant S_ .f32 0x00000000#32
  let main_v39 : FVec F S4096x256 .f32 := broadcastInDim S4096x256 ![] bcast_S_S4096x256 main_cst_13
  let main_v40 : IVec S4096x256 1 := cmpf .oeq main_v9 main_v39
  let main_v41 : IVec S4096x256 1 := ori main_v8 main_v40
  let main_c_14 : IVec S_ 1 := constantI S_ 1 1#1
  let main_v42 : IVec S_ 1 := (fun x v => Host.reduce IntOp.andi x v reducesTo_S4096x256_S_d0_1 h_S_) main_v41 main_c_14
  let main_v43 : IVec S_ 1 := andi main_v38 main_v42
  let main_cst_15 : FVec F S_ .f32 := constant S_ .f32 0x00000000#32
  let main_v44 : FVec F S4096x256 .f32 := broadcastInDim S4096x256 ![] bcast_S_S4096x256 main_cst_15
  let main_v45 : IVec S4096x256 1 := cmpf .oeq main_v10 main_v44
  let main_v46 : IVec S4096x256 1 := ori main_v8 main_v45
  let main_c_16 : IVec S_ 1 := constantI S_ 1 1#1
  let main_v47 : IVec S_ 1 := (fun x v => Host.reduce IntOp.andi x v reducesTo_S4096x256_S_d0_1 h_S_) main_v46 main_c_16
  let main_v48 : IVec S_ 1 := andi main_v43 main_v47
  main_v48

def fn_part1 {F : FTy → Type} [FloatOps F] (main_arg7 : FVec F S1x256 .f32) (main_v8 : IVec S4096x256 1) (main_v9 : FVec F S4096x256 .f32) (main_v10 : FVec F S4096x256 .f32) (main_v16 : IVec S_ 1) (main_v17 : FVec F S1024x256 .f32) : IVec S_ 1 :=
  let main_cst_4 : FVec F S_ .f32 := constant S_ .f32 0xFF800000#32
  let main_v18 : FVec F S1024x256 .f32 := broadcastInDim S1024x256 ![] bcast_S_S1024x256 main_cst_4
  let main_v19 : IVec S1024x256 1 := cmpf .ogt main_v17 main_v18
  let main_cst_5 : FVec F S_ .f32 := constant S_ .f32 0x7F800000#32
  let main_v20 : FVec F S1024x256 .f32 := broadcastInDim S1024x256 ![] bcast_S_S1024x256 main_cst_5
  let main_v21 : IVec S1024x256 1 := cmpf .olt main_v17 main_v20
  let main_v22 : IVec S1024x256 1 := andi main_v19 main_v21
  let main_c_6 : IVec S_ 1 := constantI S_ 1 1#1
  let main_v23 : IVec S_ 1 := (fun x v => Host.reduce IntOp.andi x v reducesTo_S1024x256_S_d0_1 h_S_) main_v22 main_c_6
  let main_v24 : IVec S_ 1 := andi main_v16 main_v23
  let main_cst_7 : FVec F S_ .f32 := constant S_ .f32 0xFF800000#32
  let main_v25 : FVec F S1x256 .f32 := broadcastInDim S1x256 ![] bcast_S_S1x256 main_cst_7
  let main_v26 : IVec S1x256 1 := cmpf .ogt main_arg7 main_v25
  let main_cst_8 : FVec F S_ .f32 := constant S_ .f32 0x7F800000#32
  let main_v27 : FVec F S1x256 .f32 := broadcastInDim S1x256 ![] bcast_S_S1x256 main_cst_8
  let main_v28 : IVec S1x256 1 := cmpf .olt main_arg7 main_v27
  let main_v29 : IVec S1x256 1 := andi main_v26 main_v28
  let main_c_9 : IVec S_ 1 := constantI S_ 1 1#1
  let main_v30 : IVec S_ 1 := (fun x v => Host.reduce IntOp.andi x v reducesTo_S1x256_S_d0_1 h_S_) main_v29 main_c_9
  let main_v31 : IVec S_ 1 := andi main_v24 main_v30
  let main_cst_10 : FVec F S_ .f32 := constant S_ .f32 0xFF800000#32
  let main_v32 : FVec F S4096x256 .f32 := broadcastInDim S4096x256 ![] bcast_S_S4096x256 main_cst_10
  let main_v33 : IVec S4096x256 1 := cmpf .ogt main_v9 main_v32
  let main_cst_11 : FVec F S_ .f32 := constant S_ .f32 0x7F800000#32
  fn_part2 (F := F) main_v8 main_v9 main_v10 main_v31 main_v33 main_cst_11

def fn {F : FTy → Type} [FloatOps F] (main_arg0 : FVec F S16384x1024 .f32) (main_arg1 : FVec F S16384x384 .bf16) (main_arg2 : FVec F S16384x384 .bf16) (main_arg3 : FVec F S16384x256 .bf16) (main_arg4 : FVec F S1024x1024 .bf16) (main_arg5 : FVec F S1x1024 .f32) (main_arg6 : FVec F S1024x256 .bf16) (main_arg7 : FVec F S1x256 .f32) (main_arg8 : FVec F S4096x256 .bf16) (main_arg9 : FVec F S4096x256 .bf16) (main_arg10 : FVec F S256x1024 .bf16) (main_arg11 : FVec F S1x1024 .f32) (main_arg12 : FVec F S128x1024 .f32) (main_arg13 : FVec F S128x1 .f32) : IVec S_ 1 :=
  let main_v0 : IVec S4096x256 32 := iotaInDim S4096x256 32 0
  let main_c : IVec S_ 32 := constantI S_ 32 8#32
  let main_v1 : IVec S4096x256 32 := broadcastInDim S4096x256 ![] bcast_S_S4096x256 main_c
  let main_v2 : IVec S4096x256 32 := Host.shrui main_v0 main_v1
  let main_c_0 : IVec S_ 32 := constantI S_ 32 3#32
  let main_v3 : IVec S4096x256 32 := broadcastInDim S4096x256 ![] bcast_S_S4096x256 main_c_0
  let main_v4 : IVec S4096x256 32 := andi main_v2 main_v3
  let main_v5 : IVec S4096x256 32 := iotaInDim S4096x256 32 1
  let main_c_1 : IVec S_ 32 := constantI S_ 32 6#32
  let main_v6 : IVec S4096x256 32 := broadcastInDim S4096x256 ![] bcast_S_S4096x256 main_c_1
  let main_v7 : IVec S4096x256 32 := Host.shrui main_v5 main_v6
  let main_v8 : IVec S4096x256 1 := cmpi .eq main_v4 main_v7
  let main_v9 : FVec F S4096x256 .f32 := (extf .f32 · bitsLt_bf16_f32) main_arg8
  let main_v10 : FVec F S4096x256 .f32 := (extf .f32 · bitsLt_bf16_f32) main_arg9
  let main_cst : FVec F S_ .f32 := constant S_ .f32 0xFF800000#32
  let main_v11 : FVec F S1x1024 .f32 := broadcastInDim S1x1024 ![] bcast_S_S1x1024 main_cst
  let main_v12 : IVec S1x1024 1 := cmpf .ogt main_arg5 main_v11
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_arg5 main_v13
  let main_v15 : IVec S1x1024 1 := andi main_v12 main_v14
  let main_c_3 : IVec S_ 1 := constantI S_ 1 1#1
  let main_v16 : IVec S_ 1 := (fun x v => Host.reduce IntOp.andi x v reducesTo_S1x1024_S_d0_1 h_S_) main_v15 main_c_3
  let main_v17 : FVec F S1024x256 .f32 := (extf .f32 · bitsLt_bf16_f32) main_arg6
  fn_part1 (F := F) main_arg7 main_v8 main_v9 main_v10 main_v16 main_v17
-- ==== Pre_routed.lean ====
abbrev S88 : Shape := ⟨1, ![88]⟩
abbrev S22528x1152 : Shape := ⟨2, ![22528, 1152]⟩
abbrev S16x1024x512 : Shape := ⟨3, ![16, 1024, 512]⟩
abbrev S16x512x1024 : Shape := ⟨3, ![16, 512, 1024]⟩
abbrev S22528x2 : Shape := ⟨2, ![22528, 2]⟩
abbrev S_ : Shape := ⟨0, ![]⟩

class Facts : Prop where
  slices_S22528x1152_S22528x2_0_1025 : S22528x1152.Slices ![0, 1025] S22528x2
  bcast_S_S88 : S_.BroadcastsInDim S88 (![] : Fin 0 → Fin S88.rank)
  reducesTo_S88_S_d0 : S88.ReducesTo [0] S_
  h_S_ : 0 < S_.numel
  bcast_S_S22528x2 : S_.BroadcastsInDim S22528x2 (![] : Fin 0 → Fin S22528x2.rank)
  reducesTo_S22528x2_S_d0_1 : S22528x2.ReducesTo [0, 1] S_

variable [Facts]

def fn_part1 {F : FTy → Type} [FloatOps F] (main_v0 : FVec F S22528x2 .f32) (main_v13 : IVec S_ 1) (main_v15 : IVec S22528x2 1) (main_cst_5 : FVec F S_ .f32) : IVec S_ 1 :=
  let main_v16 : FVec F S22528x2 .f32 := broadcastInDim S22528x2 ![] bcast_S_S22528x2 main_cst_5
  let main_v17 : IVec S22528x2 1 := cmpf .olt main_v0 main_v16
  let main_v18 : IVec S22528x2 1 := andi main_v15 main_v17
  let main_c_6 : IVec S_ 1 := constantI S_ 1 1#1
  let main_v19 : IVec S_ 1 := (fun x v => Host.reduce IntOp.andi x v reducesTo_S22528x2_S_d0_1 h_S_) main_v18 main_c_6
  let main_v20 : IVec S_ 1 := andi main_v13 main_v19
  main_v20

def fn {F : FTy → Type} [FloatOps F] (main_arg0 : IVec S88 32) (main_arg1 : IVec S88 32) (main_arg2 : IVec S88 32) (main_arg3 : FVec F S22528x1152 .f32) (main_arg4 : FVec F S16x1024x512 .bf16) (main_arg5 : FVec F S16x1024x512 .bf16) (main_arg6 : FVec F S16x512x1024 .bf16) : IVec S_ 1 :=
  let main_v0 : FVec F S22528x2 .f32 := (extractStridedSlice S22528x2 ![0, 1025] · slices_S22528x1152_S22528x2_0_1025) main_arg3
  let main_c : IVec S_ 32 := constantI S_ 32 0#32
  let main_v1 : IVec S88 32 := broadcastInDim S88 ![] bcast_S_S88 main_c
  let main_v2 : IVec S88 1 := cmpi .sge main_arg0 main_v1
  let main_c_0 : IVec S_ 32 := constantI S_ 32 16#32
  let main_v3 : IVec S88 32 := broadcastInDim S88 ![] bcast_S_S88 main_c_0
  let main_v4 : IVec S88 1 := cmpi .slt main_arg0 main_v3
  let main_v5 : IVec S88 1 := andi main_v2 main_v4
  let main_c_1 : IVec S_ 1 := constantI S_ 1 1#1
  let main_v6 : IVec S_ 1 := (fun x v => Host.reduce IntOp.andi x v reducesTo_S88_S_d0 h_S_) main_v5 main_c_1
  let main_c_2 : IVec S_ 32 := constantI S_ 32 0#32
  let main_v7 : IVec S88 32 := broadcastInDim S88 ![] bcast_S_S88 main_c_2
  let main_v8 : IVec S88 1 := cmpi .sge main_arg1 main_v7
  let main_c_3 : IVec S_ 32 := constantI S_ 32 16#32
  let main_v9 : IVec S88 32 := broadcastInDim S88 ![] bcast_S_S88 main_c_3
  let main_v10 : IVec S88 1 := cmpi .slt main_arg1 main_v9
  let main_v11 : IVec S88 1 := andi main_v8 main_v10
  let main_c_4 : IVec S_ 1 := constantI S_ 1 1#1
  let main_v12 : IVec S_ 1 := (fun x v => Host.reduce IntOp.andi x v reducesTo_S88_S_d0 h_S_) main_v11 main_c_4
  let main_v13 : IVec S_ 1 := andi main_v6 main_v12
  let main_cst : FVec F S_ .f32 := constant S_ .f32 0x00000000#32
  let main_v14 : FVec F S22528x2 .f32 := broadcastInDim S22528x2 ![] bcast_S_S22528x2 main_cst
  let main_v15 : IVec S22528x2 1 := cmpf .oge main_v0 main_v14
  let main_cst_5 : FVec F S_ .f32 := constant S_ .f32 0x7F800000#32
  fn_part1 (F := F) main_v0 main_v13 main_v15 main_cst_5
-- ==== Pre_weights_finite.lean ====
abbrev S16384x1024 : Shape := ⟨2, ![16384, 1024]⟩
abbrev S1x1024 : Shape := ⟨2, ![1, 1024]⟩
abbrev S1024x3840 : Shape := ⟨2, ![1024, 3840]⟩
abbrev S1x768 : Shape := ⟨2, ![1, 768]⟩
abbrev S1024x768 : Shape := ⟨2, ![1024, 768]⟩
abbrev S_ : Shape := ⟨0, ![]⟩

class Facts : Prop where
  slices_S1024x3840_S1024x768_0_0 : S1024x3840.Slices ![0, 0] S1024x768
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S16384x1024 .f32) (main_arg1 : FVec F S1x1024 .f32) (main_arg2 : FVec F S1024x3840 .bf16) (main_arg3 : FVec F S1x768 .f32) : IVec S_ 1 :=
  let main_v0 : FVec F S1024x768 .bf16 := (extractStridedSlice S1024x768 ![0, 0] · slices_S1024x3840_S1024x768_0_0) main_arg2
  let main_v1 : FVec F S1024x768 .f32 := (extf .f32 · bitsLt_bf16_f32) main_v0
  let main_cst : FVec F S_ .f32 := constant S_ .f32 0xFF800000#32
  let main_v2 : FVec F S1x1024 .f32 := broadcastInDim S1x1024 ![] bcast_S_S1x1024 main_cst
  let main_v3 : IVec S1x1024 1 := cmpf .ogt main_arg1 main_v2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_arg1 main_v4
  let main_v6 : IVec S1x1024 1 := andi main_v3 main_v5
  let main_c : IVec S_ 1 := constantI S_ 1 1#1
  let main_v7 : IVec S_ 1 := (fun x v => Host.reduce IntOp.andi x v reducesTo_S1x1024_S_d0_1 h_S_) main_v6 main_c
  let main_cst_1 : FVec F S_ .f32 := constant S_ .f32 0xFF800000#32
  let main_v8 : FVec F S1024x768 .f32 := broadcastInDim S1024x768 ![] bcast_S_S1024x768 main_cst_1
  let main_v9 : IVec S1024x768 1 := cmpf .ogt main_v1 main_v8
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v1 main_v10
  let main_v12 : IVec S1024x768 1 := andi main_v9 main_v11
  let main_c_3 : IVec S_ 1 := constantI S_ 1 1#1
  let main_v13 : IVec S_ 1 := (fun x v => Host.reduce IntOp.andi x v reducesTo_S1024x768_S_d0_1 h_S_) main_v12 main_c_3
  let main_v14 : IVec S_ 1 := andi main_v7 main_v13
  main_v14
-- ==== Experts.lean ====
abbrev S88 : Shape := ⟨1, ![88]⟩
abbrev S22528x1152 : Shape := ⟨2, ![22528, 1152]⟩
abbrev S16x1024x512 : Shape := ⟨3, ![16, 1024, 512]⟩
abbrev S16x512x1024 : Shape := ⟨3, ![16, 512, 1024]⟩
abbrev S22528x1024 : Shape := ⟨2, ![22528, 1024]⟩
abbrev S256x1152 : Shape := ⟨2, ![256, 1152]⟩
abbrev S1x1024x512 : Shape := ⟨3, ![1, 1024, 512]⟩
abbrev S1 : Shape := ⟨1, ![1]⟩
abbrev S1x512x1024 : Shape := ⟨3, ![1, 512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S22528x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S22528x1024, .f32⟩
  | .local _ .vmem, ⟨0, _⟩ => ⟨S256x1152, .f32⟩
  | .local _ .vmem, ⟨1, _⟩ => ⟨S256x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x1024, .f32⟩
  | .local _ .vmem, ⟨15, _⟩ => ⟨S256x1024, .f32⟩
  | .local _ .smem, ⟨0, _⟩ => ⟨S88, .i32⟩
  | .local _ .smem, ⟨1, _⟩ => ⟨S88, .i32⟩
  | .local _ .smem, ⟨2, _⟩ => ⟨S88, .i32⟩
  | _, _ => ⟨S22528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S88 : Shape := ⟨1, ![88]⟩
abbrev S22528x1152 : Shape := ⟨2, ![22528, 1152]⟩
abbrev S16x1024x512 : Shape := ⟨3, ![16, 1024, 512]⟩
abbrev S16x512x1024 : Shape := ⟨3, ![16, 512, 1024]⟩
abbrev S22528x1024 : Shape := ⟨2, ![22528, 1024]⟩
abbrev S88x1 : Shape := ⟨2, ![88, 1]⟩
abbrev S88x256 : Shape := ⟨2, ![88, 256]⟩
abbrev S22528 : Shape := ⟨1, ![22528]⟩
abbrev S22528x1 : Shape := ⟨2, ![22528, 1]⟩
abbrev S_ : Shape := ⟨0, ![]⟩
abbrev S22528x2 : Shape := ⟨2, ![22528, 2]⟩
abbrev S1x16 : Shape := ⟨2, ![1, 16]⟩
abbrev S22528x16 : Shape := ⟨2, ![22528, 16]⟩
abbrev S1x1024x512 : Shape := ⟨3, ![1, 1024, 512]⟩
abbrev S1024x512 : Shape := ⟨2, ![1024, 512]⟩
abbrev S22528x512 : Shape := ⟨2, ![22528, 512]⟩
abbrev S1x512x1024 : Shape := ⟨3, ![1, 512, 1024]⟩
abbrev S512x1024 : Shape := ⟨2, ![512, 1024]⟩

abbrev nBuf : Space → Nat
  | .hbm => 419
  | .vmem => 0
  | .smem => 0
  | _ => 0

abbrev hbmTy0_0 (i : Nat) : BufTy := match i % 128 with
  | 0 => ⟨S88, .i32⟩
  | 1 => ⟨S88, .i32⟩
  | 2 => ⟨S88, .i32⟩
  | 3 => ⟨S22528x1152, .f32⟩
  | 4 => ⟨S16x1024x512, .bf16⟩
  | 5 => ⟨S16x1024x512, .bf16⟩
  | 6 => ⟨S16x512x1024, .bf16⟩
  | 7 => ⟨S22528x1024, .f32⟩
  | 8 => ⟨S16x1024x512, .f32⟩
  | 9 => ⟨S16x1024x512, .f32⟩
  | 10 => ⟨S16x512x1024, .f32⟩
  | 11 => ⟨S88x1, .i32⟩
  | 12 => ⟨S88x256, .i32⟩
  | 13 => ⟨S22528, .i32⟩
  | 14 => ⟨S22528x1, .i32⟩
  | 15 => ⟨S_, .i32⟩
  | 16 => ⟨S22528x1, .i32⟩
  | 17 => ⟨S22528x1, .i1⟩
  | 18 => ⟨S22528x2, .f32⟩
  | 19 => ⟨S_, .f32⟩
  | 20 => ⟨S_, .f32⟩
  | 21 => ⟨S22528x2, .i1⟩
  | 22 => ⟨S22528x2, .f32⟩
  | 23 => ⟨S22528x2, .f32⟩
  | 24 => ⟨S22528x1, .f32⟩
  | 25 => ⟨S88x1, .i32⟩
  | 26 => ⟨S88x256, .i32⟩
  | 27 => ⟨S22528, .i32⟩
  | 28 => ⟨S22528x1, .i32⟩
  | 29 => ⟨S1x16, .i32⟩
  | 30 => ⟨S22528x16, .i32⟩
  | 31 => ⟨S22528x16, .i32⟩
  | 32 => ⟨S22528x16, .i1⟩
  | 33 => ⟨S22528x16, .f32⟩
  | 34 => ⟨S22528x16, .f32⟩
  | 35 => ⟨S22528x16, .f32⟩
  | 36 => ⟨S22528x1, .f32⟩
  | 37 => ⟨S88x1, .i32⟩
  | 38 => ⟨S88x256, .i32⟩
  | 39 => ⟨S22528, .i32⟩
  | 40 => ⟨S22528x1, .i32⟩
  | 41 => ⟨S1x16, .i32⟩
  | 42 => ⟨S22528x16, .i32⟩
  | 43 => ⟨S22528x16, .i32⟩
  | 44 => ⟨S22528x16, .i1⟩
  | 45 => ⟨S22528x16, .f32⟩
  | 46 => ⟨S22528x16, .f32⟩
  | 47 => ⟨S22528x16, .f32⟩
  | 48 => ⟨S22528x16, .f32⟩
  | 49 => ⟨S_, .f32⟩
  | 50 => ⟨S22528x1024, .f32⟩
  | 51 => ⟨S1x1024x512, .f32⟩
  | 52 => ⟨S1024x512, .f32⟩
  | 53 => ⟨S22528x512, .f32⟩
  | 54 => ⟨S22528x512, .f32⟩
  | 55 => ⟨S22528x512, .f32⟩
  | 56 => ⟨S_, .f32⟩
  | 57 => ⟨S22528x512, .f32⟩
  | 58 => ⟨S22528x512, .f32⟩
  | 59 => ⟨S_, .f32⟩
  | 60 => ⟨S22528x512, .f32⟩
  | 61 => ⟨S22528x512, .f32⟩
  | 62 => ⟨S22528x512, .f32⟩
  | 63 => ⟨S1x1024x512, .f32⟩
  | 64 => ⟨S1024x512, .f32⟩
  | 65 => ⟨S22528x512, .f32⟩
  | 66 => ⟨S22528x512, .f32⟩
  | 67 => ⟨S22528x1, .f32⟩
  | 68 => ⟨S1x512x1024, .f32⟩
  | 69 => ⟨S512x1024, .f32⟩
  | 70 => ⟨S22528x1024, .f32⟩
  | 71 => ⟨S22528x1024, .f32⟩
  | 72 => ⟨S22528x1024, .f32⟩
  | 73 => ⟨S22528x1024, .f32⟩
  | 74 => ⟨S1x1024x512, .f32⟩
  | 75 => ⟨S1024x512, .f32⟩
  | 76 => ⟨S22528x512, .f32⟩
  | 77 => ⟨S22528x512, .f32⟩
  | 78 => ⟨S22528x512, .f32⟩
  | 79 => ⟨S_, .f32⟩
  | 80 => ⟨S22528x512, .f32⟩
  | 81 => ⟨S22528x512, .f32⟩
  | 82 => ⟨S_, .f32⟩
  | 83 => ⟨S22528x512, .f32⟩
  | 84 => ⟨S22528x512, .f32⟩
  | 85 => ⟨S22528x512, .f32⟩
  | 86 => ⟨S1x1024x512, .f32⟩
  | 87 => ⟨S1024x512, .f32⟩
  | 88 => ⟨S22528x512, .f32⟩
  | 89 => ⟨S22528x512, .f32⟩
  | 90 => ⟨S22528x1, .f32⟩
  | 91 => ⟨S1x512x1024, .f32⟩
  | 92 => ⟨S512x1024, .f32⟩
  | 93 => ⟨S22528x1024, .f32⟩
  | 94 => ⟨S22528x1024, .f32⟩
  | 95 => ⟨S22528x1024, .f32⟩
  | 96 => ⟨S22528x1024, .f32⟩
  | 97 => ⟨S1x1024x512, .f32⟩
  | 98 => ⟨S1024x512, .f32⟩
  | 99 => ⟨S22528x512, .f32⟩
  | 100 => ⟨S22528x512, .f32⟩
  | 101 => ⟨S22528x512, .f32⟩
  | 102 => ⟨S_, .f32⟩
  | 103 => ⟨S22528x512, .f32⟩
  | 104 => ⟨S22528x512, .f32⟩
  | 105 => ⟨S_, .f32⟩
  | 106 => ⟨S22528x512, .f32⟩
  | 107 => ⟨S22528x512, .f32⟩
  | 108 => ⟨S22528x512, .f32⟩
  | 109 => ⟨S1x1024x512, .f32⟩
  | 110 => ⟨S1024x512, .f32⟩
  | 111 => ⟨S22528x512, .f32⟩
  | 112 => ⟨S22528x512, .f32⟩
  | 113 => ⟨S22528x1, .f32⟩
  | 114 => ⟨S1x512x1024, .f32⟩
  | 115 => ⟨S512x1024, .f32⟩
  | 116 => ⟨S22528x1024, .f32⟩
  | 117 => ⟨S22528x1024, .f32⟩
  | 118 => ⟨S22528x1024, .f32⟩
  | 119 => ⟨S22528x1024, .f32⟩
  | 120 => ⟨S1x1024x512, .f32⟩
  | 121 => ⟨S1024x512, .f32⟩
  | 122 => ⟨S22528x512, .f32⟩
  | 123 => ⟨S22528x512, .f32⟩
  | 124 => ⟨S22528x512, .f32⟩
  | 125 => ⟨S_, .f32⟩
  | 126 => ⟨S22528x512, .f32⟩
  | 127 => ⟨S22528x512, .f32⟩
  | _ => ⟨S88, .i32⟩

abbrev hbmTy0_1 (i : Nat) : BufTy := match i % 128 with
  | 0 => ⟨S_, .f32⟩
  | 1 => ⟨S22528x512, .f32⟩
  | 2 => ⟨S22528x512, .f32⟩
  | 3 => ⟨S22528x512, .f32⟩
  | 4 => ⟨S1x1024x512, .f32⟩
  | 5 => ⟨S1024x512, .f32⟩
  | 6 => ⟨S22528x512, .f32⟩
  | 7 => ⟨S22528x512, .f32⟩
  | 8 => ⟨S22528x1, .f32⟩
  | 9 => ⟨S1x512x1024, .f32⟩
  | 10 => ⟨S512x1024, .f32⟩
  | 11 => ⟨S22528x1024, .f32⟩
  | 12 => ⟨S22528x1024, .f32⟩
  | 13 => ⟨S22528x1024, .f32⟩
  | 14 => ⟨S22528x1024, .f32⟩
  | 15 => ⟨S1x1024x512, .f32⟩
  | 16 => ⟨S1024x512, .f32⟩
  | 17 => ⟨S22528x512, .f32⟩
  | 18 => ⟨S22528x512, .f32⟩
  | 19 => ⟨S22528x512, .f32⟩
  | 20 => ⟨S_, .f32⟩
  | 21 => ⟨S22528x512, .f32⟩
  | 22 => ⟨S22528x512, .f32⟩
  | 23 => ⟨S_, .f32⟩
  | 24 => ⟨S22528x512, .f32⟩
  | 25 => ⟨S22528x512, .f32⟩
  | 26 => ⟨S22528x512, .f32⟩
  | 27 => ⟨S1x1024x512, .f32⟩
  | 28 => ⟨S1024x512, .f32⟩
  | 29 => ⟨S22528x512, .f32⟩
  | 30 => ⟨S22528x512, .f32⟩
  | 31 => ⟨S22528x1, .f32⟩
  | 32 => ⟨S1x512x1024, .f32⟩
  | 33 => ⟨S512x1024, .f32⟩
  | 34 => ⟨S22528x1024, .f32⟩
  | 35 => ⟨S22528x1024, .f32⟩
  | 36 => ⟨S22528x1024, .f32⟩
  | 37 => ⟨S22528x1024, .f32⟩
  | 38 => ⟨S1x1024x512, .f32⟩
  | 39 => ⟨S1024x512, .f32⟩
  | 40 => ⟨S22528x512, .f32⟩
  | 41 => ⟨S22528x512, .f32⟩
  | 42 => ⟨S22528x512, .f32⟩
  | 43 => ⟨S_, .f32⟩
  | 44 => ⟨S22528x512, .f32⟩
  | 45 => ⟨S22528x512, .f32⟩
  | 46 => ⟨S_, .f32⟩
  | 47 => ⟨S22528x512, .f32⟩
  | 48 => ⟨S22528x512, .f32⟩
  | 49 => ⟨S22528x512, .f32⟩
  | 50 => ⟨S1x1024x512, .f32⟩
  | 51 => ⟨S1024x512, .f32⟩
  | 52 => ⟨S22528x512, .f32⟩
  | 53 => ⟨S22528x512, .f32⟩
  | 54 => ⟨S22528x1, .f32⟩
  | 55 => ⟨S1x512x1024, .f32⟩
  | 56 => ⟨S512x1024, .f32⟩
  | 57 => ⟨S22528x1024, .f32⟩
  | 58 => ⟨S22528x1024, .f32⟩
  | 59 => ⟨S22528x1024, .f32⟩
  | 60 => ⟨S22528x1024, .f32⟩
  | 61 => ⟨S1x1024x512, .f32⟩
  | 62 => ⟨S1024x512, .f32⟩
  | 63 => ⟨S22528x512, .f32⟩
  | 64 => ⟨S22528x512, .f32⟩
  | 65 => ⟨S22528x512, .f32⟩
  | 66 => ⟨S_, .f32⟩
  | 67 => ⟨S22528x512, .f32⟩
  | 68 => ⟨S22528x512, .f32⟩
  | 69 => ⟨S_, .f32⟩
  | 70 => ⟨S22528x512, .f32⟩
  | 71 => ⟨S22528x512, .f32⟩
  | 72 => ⟨S22528x512, .f32⟩
  | 73 => ⟨S1x1024x512, .f32⟩
  | 74 => ⟨S1024x512, .f32⟩
  | 75 => ⟨S22528x512, .f32⟩
  | 76 => ⟨S22528x512, .f32⟩
  | 77 => ⟨S22528x1, .f32⟩
  | 78 => ⟨S1x512x1024, .f32⟩
  | 79 => ⟨S512x1024, .f32⟩
  | 80 => ⟨S22528x1024, .f32⟩
  | 81 => ⟨S22528x1024, .f32⟩
  | 82 => ⟨S22528x1024, .f32⟩
  | 83 => ⟨S22528x1024, .f32⟩
  | 84 => ⟨S1x1024x512, .f32⟩
  | 85 => ⟨S1024x512, .f32⟩
  | 86 => ⟨S22528x512, .f32⟩
  | 87 => ⟨S22528x512, .f32⟩
  | 88 => ⟨S22528x512, .f32⟩
  | 89 => ⟨S_, .f32⟩
  | 90 => ⟨S22528x512, .f32⟩
  | 91 => ⟨S22528x512, .f32⟩
  | 92 => ⟨S_, .f32⟩
  | 93 => ⟨S22528x512, .f32⟩
  | 94 => ⟨S22528x512, .f32⟩
  | 95 => ⟨S22528x512, .f32⟩
  | 96 => ⟨S1x1024x512, .f32⟩
  | 97 => ⟨S1024x512, .f32⟩
  | 98 => ⟨S22528x512, .f32⟩
  | 99 => ⟨S22528x512, .f32⟩
  | 100 => ⟨S22528x1, .f32⟩
  | 101 => ⟨S1x512x1024, .f32⟩
  | 102 => ⟨S512x1024, .f32⟩
  | 103 => ⟨S22528x1024, .f32⟩
  | 104 => ⟨S22528x1024, .f32⟩
  | 105 => ⟨S22528x1024, .f32⟩
  | 106 => ⟨S22528x1024, .f32⟩
  | 107 => ⟨S1x1024x512, .f32⟩
  | 108 => ⟨S1024x512, .f32⟩
  | 109 => ⟨S22528x512, .f32⟩
  | 110 => ⟨S22528x512, .f32⟩
  | 111 => ⟨S22528x512, .f32⟩
  | 112 => ⟨S_, .f32⟩
  | 113 => ⟨S22528x512, .f32⟩
  | 114 => ⟨S22528x512, .f32⟩
  | 115 => ⟨S_, .f32⟩
  | 116 => ⟨S22528x512, .f32⟩
  | 117 => ⟨S22528x512, .f32⟩
  | 118 => ⟨S22528x512, .f32⟩
  | 119 => ⟨S1x1024x512, .f32⟩
  | 120 => ⟨S1024x512, .f32⟩
  | 121 => ⟨S22528x512, .f32⟩
  | 122 => ⟨S22528x512, .f32⟩
  | 123 => ⟨S22528x1, .f32⟩
  | 124 => ⟨S1x512x1024, .f32⟩
  | 125 => ⟨S512x1024, .f32⟩
  | 126 => ⟨S22528x1024, .f32⟩
  | 127 => ⟨S22528x1024, .f32⟩
  | _ => ⟨S88, .i32⟩

abbrev hbmTy0_2 (i : Nat) : BufTy := match i % 128 with
  | 0 => ⟨S22528x1024, .f32⟩
  | 1 => ⟨S22528x1024, .f32⟩
  | 2 => ⟨S1x1024x512, .f32⟩
  | 3 => ⟨S1024x512, .f32⟩
  | 4 => ⟨S22528x512, .f32⟩
  | 5 => ⟨S22528x512, .f32⟩
  | 6 => ⟨S22528x512, .f32⟩
  | 7 => ⟨S_, .f32⟩
  | 8 => ⟨S22528x512, .f32⟩
  | 9 => ⟨S22528x512, .f32⟩
  | 10 => ⟨S_, .f32⟩
  | 11 => ⟨S22528x512, .f32⟩
  | 12 => ⟨S22528x512, .f32⟩
  | 13 => ⟨S22528x512, .f32⟩
  | 14 => ⟨S1x1024x512, .f32⟩
  | 15 => ⟨S1024x512, .f32⟩
  | 16 => ⟨S22528x512, .f32⟩
  | 17 => ⟨S22528x512, .f32⟩
  | 18 => ⟨S22528x1, .f32⟩
  | 19 => ⟨S1x512x1024, .f32⟩
  | 20 => ⟨S512x1024, .f32⟩
  | 21 => ⟨S22528x1024, .f32⟩
  | 22 => ⟨S22528x1024, .f32⟩
  | 23 => ⟨S22528x1024, .f32⟩
  | 24 => ⟨S22528x1024, .f32⟩
  | 25 => ⟨S1x1024x512, .f32⟩
  | 26 => ⟨S1024x512, .f32⟩
  | 27 => ⟨S22528x512, .f32⟩
  | 28 => ⟨S22528x512, .f32⟩
  | 29 => ⟨S22528x512, .f32⟩
  | 30 => ⟨S_, .f32⟩
  | 31 => ⟨S22528x512, .f32⟩
  | 32 => ⟨S22528x512, .f32⟩
  | 33 => ⟨S_, .f32⟩
  | 34 => ⟨S22528x512, .f32⟩
  | 35 => ⟨S22528x512, .f32⟩
  | 36 => ⟨S22528x512, .f32⟩
  | 37 => ⟨S1x1024x512, .f32⟩
  | 38 => ⟨S1024x512, .f32⟩
  | 39 => ⟨S22528x512, .f32⟩
  | 40 => ⟨S22528x512, .f32⟩
  | 41 => ⟨S22528x1, .f32⟩
  | 42 => ⟨S1x512x1024, .f32⟩
  | 43 => ⟨S512x1024, .f32⟩
  | 44 => ⟨S22528x1024, .f32⟩
  | 45 => ⟨S22528x1024, .f32⟩
  | 46 => ⟨S22528x1024, .f32⟩
  | 47 => ⟨S22528x1024, .f32⟩
  | 48 => ⟨S1x1024x512, .f32⟩
  | 49 => ⟨S1024x512, .f32⟩
  | 50 => ⟨S22528x512, .f32⟩
  | 51 => ⟨S22528x512, .f32⟩
  | 52 => ⟨S22528x512, .f32⟩
  | 53 => ⟨S_, .f32⟩
  | 54 => ⟨S22528x512, .f32⟩
  | 55 => ⟨S22528x512, .f32⟩
  | 56 => ⟨S_, .f32⟩
  | 57 => ⟨S22528x512, .f32⟩
  | 58 => ⟨S22528x512, .f32⟩
  | 59 => ⟨S22528x512, .f32⟩
  | 60 => ⟨S1x1024x512, .f32⟩
  | 61 => ⟨S1024x512, .f32⟩
  | 62 => ⟨S22528x512, .f32⟩
  | 63 => ⟨S22528x512, .f32⟩
  | 64 => ⟨S22528x1, .f32⟩
  | 65 => ⟨S1x512x1024, .f32⟩
  | 66 => ⟨S512x1024, .f32⟩
  | 67 => ⟨S22528x1024, .f32⟩
  | 68 => ⟨S22528x1024, .f32⟩
  | 69 => ⟨S22528x1024, .f32⟩
  | 70 => ⟨S22528x1024, .f32⟩
  | 71 => ⟨S1x1024x512, .f32⟩
  | 72 => ⟨S1024x512, .f32⟩
  | 73 => ⟨S22528x512, .f32⟩
  | 74 => ⟨S22528x512, .f32⟩
  | 75 => ⟨S22528x512, .f32⟩
  | 76 => ⟨S_, .f32⟩
  | 77 => ⟨S22528x512, .f32⟩
  | 78 => ⟨S22528x512, .f32⟩
  | 79 => ⟨S_, .f32⟩
  | 80 => ⟨S22528x512, .f32⟩
  | 81 => ⟨S22528x512, .f32⟩
  | 82 => ⟨S22528x512, .f32⟩
  | 83 => ⟨S1x1024x512, .f32⟩
  | 84 => ⟨S1024x512, .f32⟩
  | 85 => ⟨S22528x512, .f32⟩
  | 86 => ⟨S22528x512, .f32⟩
  | 87 => ⟨S22528x1, .f32⟩
  | 88 => ⟨S1x512x1024, .f32⟩
  | 89 => ⟨S512x1024, .f32⟩
  | 90 => ⟨S22528x1024, .f32⟩
  | 91 => ⟨S22528x1024, .f32⟩
  | 92 => ⟨S22528x1024, .f32⟩
  | 93 => ⟨S22528x1024, .f32⟩
  | 94 => ⟨S1x1024x512, .f32⟩
  | 95 => ⟨S1024x512, .f32⟩
  | 96 => ⟨S22528x512, .f32⟩
  | 97 => ⟨S22528x512, .f32⟩
  | 98 => ⟨S22528x512, .f32⟩
  | 99 => ⟨S_, .f32⟩
  | 100 => ⟨S22528x512, .f32⟩
  | 101 => ⟨S22528x512, .f32⟩
  | 102 => ⟨S_, .f32⟩
  | 103 => ⟨S22528x512, .f32⟩
  | 104 => ⟨S22528x512, .f32⟩
  | 105 => ⟨S22528x512, .f32⟩
  | 106 => ⟨S1x1024x512, .f32⟩
  | 107 => ⟨S1024x512, .f32⟩
  | 108 => ⟨S22528x512, .f32⟩
  | 109 => ⟨S22528x512, .f32⟩
  | 110 => ⟨S22528x1, .f32⟩
  | 111 => ⟨S1x512x1024, .f32⟩
  | 112 => ⟨S512x1024, .f32⟩
  | 113 => ⟨S22528x1024, .f32⟩
  | 114 => ⟨S22528x1024, .f32⟩
  | 115 => ⟨S22528x1024, .f32⟩
  | 116 => ⟨S22528x1024, .f32⟩
  | 117 => ⟨S1x1024x512, .f32⟩
  | 118 => ⟨S1024x512, .f32⟩
  | 119 => ⟨S22528x512, .f32⟩
  | 120 => ⟨S22528x512, .f32⟩
  | 121 => ⟨S22528x512, .f32⟩
  | 122 => ⟨S_, .f32⟩
  | 123 => ⟨S22528x512, .f32⟩
  | 124 => ⟨S22528x512, .f32⟩
  | 125 => ⟨S_, .f32⟩
  | 126 => ⟨S22528x512, .f32⟩
  | 127 => ⟨S22528x512, .f32⟩
  | _ => ⟨S88, .i32⟩

abbrev hbmTy0_3 (i : Nat) : BufTy := match i % 128 with
  | 0 => ⟨S22528x512, .f32⟩
  | 1 => ⟨S1x1024x512, .f32⟩
  | 2 => ⟨S1024x512, .f32⟩
  | 3 => ⟨S22528x512, .f32⟩
  | 4 => ⟨S22528x512, .f32⟩
  | 5 => ⟨S22528x1, .f32⟩
  | 6 => ⟨S1x512x1024, .f32⟩
  | 7 => ⟨S512x1024, .f32⟩
  | 8 => ⟨S22528x1024, .f32⟩
  | 9 => ⟨S22528x1024, .f32⟩
  | 10 => ⟨S22528x1024, .f32⟩
  | 11 => ⟨S22528x1024, .f32⟩
  | 12 => ⟨S1x1024x512, .f32⟩
  | 13 => ⟨S1024x512, .f32⟩
  | 14 => ⟨S22528x512, .f32⟩
  | 15 => ⟨S22528x512, .f32⟩
  | 16 => ⟨S22528x512, .f32⟩
  | 17 => ⟨S_, .f32⟩
  | 18 => ⟨S22528x512, .f32⟩
  | 19 => ⟨S22528x512, .f32⟩
  | 20 => ⟨S_, .f32⟩
  | 21 => ⟨S22528x512, .f32⟩
  | 22 => ⟨S22528x512, .f32⟩
  | 23 => ⟨S22528x512, .f32⟩
  | 24 => ⟨S1x1024x512, .f32⟩
  | 25 => ⟨S1024x512, .f32⟩
  | 26 => ⟨S22528x512, .f32⟩
  | 27 => ⟨S22528x512, .f32⟩
  | 28 => ⟨S22528x1, .f32⟩
  | 29 => ⟨S1x512x1024, .f32⟩
  | 30 => ⟨S512x1024, .f32⟩
  | 31 => ⟨S22528x1024, .f32⟩
  | 32 => ⟨S22528x1024, .f32⟩
  | 33 => ⟨S22528x1024, .f32⟩
  | 34 => ⟨S22528x1024, .f32⟩
  | _ => ⟨S88, .i32⟩

abbrev hbmTy (i : Nat) : BufTy := match i / 128 with
  | 0 => hbmTy0_0 i
  | 1 => hbmTy0_1 i
  | 2 => hbmTy0_2 i
  | 3 => hbmTy0_3 i
  | _ => ⟨S88, .i32⟩

abbrev bufTy : (tb : Table) → Fin (tcTables nBuf tb) → BufTy
  | .hbm, ⟨i, _⟩ => hbmTy i
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call5_v0 : Ref sig .tc := ⟨.hbm, 100, rfl⟩
abbrev main_call5_v1 : Ref sig .tc := ⟨.hbm, 101, rfl⟩
abbrev main_call5_cst : Ref sig .tc := ⟨.hbm, 102, rfl⟩
abbrev main_call5_v2 : Ref sig .tc := ⟨.hbm, 103, rfl⟩
abbrev main_call5_v3 : Ref sig .tc := ⟨.hbm, 104, rfl⟩
abbrev main_call5_cst_0 : Ref sig .tc := ⟨.hbm, 105, rfl⟩
abbrev main_call5_v4 : Ref sig .tc := ⟨.hbm, 106, rfl⟩
abbrev main_call5_v5 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_call8_v0 : Ref sig .tc := ⟨.hbm, 169, rfl⟩
abbrev main_call8_v1 : Ref sig .tc := ⟨.hbm, 170, rfl⟩
abbrev main_call8_cst : Ref sig .tc := ⟨.hbm, 171, rfl⟩
abbrev main_call8_v2 : Ref sig .tc := ⟨.hbm, 172, rfl⟩
abbrev main_call8_v3 : Ref sig .tc := ⟨.hbm, 173, rfl⟩
abbrev main_call8_cst_0 : Ref sig .tc := ⟨.hbm, 174, rfl⟩
abbrev main_call8_v4 : Ref sig .tc := ⟨.hbm, 175, rfl⟩
abbrev main_call8_v5 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_call10_v0 : Ref sig .tc := ⟨.hbm, 215, rfl⟩
abbrev main_call10_v1 : Ref sig .tc := ⟨.hbm, 216, rfl⟩
abbrev main_call10_cst : Ref sig .tc := ⟨.hbm, 217, rfl⟩
abbrev main_call10_v2 : Ref sig .tc := ⟨.hbm, 218, rfl⟩
abbrev main_call10_v3 : Ref sig .tc := ⟨.hbm, 219, rfl⟩
abbrev main_call10_cst_0 : Ref sig .tc := ⟨.hbm, 220, rfl⟩
abbrev main_call10_v4 : Ref sig .tc := ⟨.hbm, 221, rfl⟩
abbrev main_call10_v5 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_call11_v0 : Ref sig .tc := ⟨.hbm, 238, rfl⟩
abbrev main_call11_v1 : Ref sig .tc := ⟨.hbm, 239, rfl⟩
abbrev main_call11_cst : Ref sig .tc := ⟨.hbm, 240, rfl⟩
abbrev main_call11_v2 : Ref sig .tc := ⟨.hbm, 241, rfl⟩
abbrev main_call11_v3 : Ref sig .tc := ⟨.hbm, 242, rfl⟩
abbrev main_call11_cst_0 : Ref sig .tc := ⟨.hbm, 243, rfl⟩
abbrev main_call11_v4 : Ref sig .tc := ⟨.hbm, 244, rfl⟩
abbrev main_call11_v5 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_call12_v0 : Ref sig .tc := ⟨.hbm, 261, rfl⟩
abbrev main_call12_v1 : Ref sig .tc := ⟨.hbm, 262, rfl⟩
abbrev main_call12_cst : Ref sig .tc := ⟨.hbm, 263, rfl⟩
abbrev main_call12_v2 : Ref sig .tc := ⟨.hbm, 264, rfl⟩
abbrev main_call12_v3 : Ref sig .tc := ⟨.hbm, 265, rfl⟩
abbrev main_call12_cst_0 : Ref sig .tc := ⟨.hbm, 266, rfl⟩
abbrev main_call12_v4 : Ref sig .tc := ⟨.hbm, 267, rfl⟩
abbrev main_call12_v5 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_call13_v0 : Ref sig .tc := ⟨.hbm, 284, rfl⟩
abbrev main_call13_v1 : Ref sig .tc := ⟨.hbm, 285, rfl⟩
abbrev main_call13_cst : Ref sig .tc := ⟨.hbm, 286, rfl⟩
abbrev main_call13_v2 : Ref sig .tc := ⟨.hbm, 287, rfl⟩
abbrev main_call13_v3 : Ref sig .tc := ⟨.hbm, 288, rfl⟩
abbrev main_call13_cst_0 : Ref sig .tc := ⟨.hbm, 289, rfl⟩
abbrev main_call13_v4 : Ref sig .tc := ⟨.hbm, 290, rfl⟩
abbrev main_call13_v5 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_call14_v0 : Ref sig .tc := ⟨.hbm, 307, rfl⟩
abbrev main_call14_v1 : Ref sig .tc := ⟨.hbm, 308, rfl⟩
abbrev main_call14_cst : Ref sig .tc := ⟨.hbm, 309, rfl⟩
abbrev main_call14_v2 : Ref sig .tc := ⟨.hbm, 310, rfl⟩
abbrev main_call14_v3 : Ref sig .tc := ⟨.hbm, 311, rfl⟩
abbrev main_call14_cst_0 : Ref sig .tc := ⟨.hbm, 312, rfl⟩
abbrev main_call14_v4 : Ref sig .tc := ⟨.hbm, 313, rfl⟩
abbrev main_call14_v5 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_call15_v0 : Ref sig .tc := ⟨.hbm, 330, rfl⟩
abbrev main_call15_v1 : Ref sig .tc := ⟨.hbm, 331, rfl⟩
abbrev main_call15_cst : Ref sig .tc := ⟨.hbm, 332, rfl⟩
abbrev main_call15_v2 : Ref sig .tc := ⟨.hbm, 333, rfl⟩
abbrev main_call15_v3 : Ref sig .tc := ⟨.hbm, 334, rfl⟩
abbrev main_call15_cst_0 : Ref sig .tc := ⟨.hbm, 335, rfl⟩
abbrev main_call15_v4 : Ref sig .tc := ⟨.hbm, 336, rfl⟩
abbrev main_call15_v5 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_call16_v0 : Ref sig .tc := ⟨.hbm, 353, rfl⟩
abbrev main_call16_v1 : Ref sig .tc := ⟨.hbm, 354, rfl⟩
abbrev main_call16_cst : Ref sig .tc := ⟨.hbm, 355, rfl⟩
abbrev main_call16_v2 : Ref sig .tc := ⟨.hbm, 356, rfl⟩
abbrev main_call16_v3 : Ref sig .tc := ⟨.hbm, 357, rfl⟩
abbrev main_call16_cst_0 : Ref sig .tc := ⟨.hbm, 358, rfl⟩
abbrev main_call16_v4 : Ref sig .tc := ⟨.hbm, 359, rfl⟩
abbrev main_call16_v5 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_call17_v0 : Ref sig .tc := ⟨.hbm, 376, rfl⟩
abbrev main_call17_v1 : Ref sig .tc := ⟨.hbm, 377, rfl⟩
abbrev main_call17_cst : Ref sig .tc := ⟨.hbm, 378, rfl⟩
abbrev main_call17_v2 : Ref sig .tc := ⟨.hbm, 379, rfl⟩
abbrev main_call17_v3 : Ref sig .tc := ⟨.hbm, 380, rfl⟩
abbrev main_call17_cst_0 : Ref sig .tc := ⟨.hbm, 381, rfl⟩
abbrev main_call17_v4 : Ref sig .tc := ⟨.hbm, 382, rfl⟩
abbrev main_call17_v5 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_call18_v0 : Ref sig .tc := ⟨.hbm, 399, rfl⟩
abbrev main_call18_v1 : Ref sig .tc := ⟨.hbm, 400, rfl⟩
abbrev main_call18_cst : Ref sig .tc := ⟨.hbm, 401, rfl⟩
abbrev main_call18_v2 : Ref sig .tc := ⟨.hbm, 402, rfl⟩
abbrev main_call18_v3 : Ref sig .tc := ⟨.hbm, 403, rfl⟩
abbrev main_call18_cst_0 : Ref sig .tc := ⟨.hbm, 404, rfl⟩
abbrev main_call18_v4 : Ref sig .tc := ⟨.hbm, 405, rfl⟩
abbrev main_call18_v5 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_v265 : Ref sig .tc := ⟨.hbm, 416, rfl⟩
abbrev main_v266 : Ref sig .tc := ⟨.hbm, 417, rfl⟩
abbrev main_v267 : Ref sig .tc := ⟨.hbm, 418, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S1024x3840 : Shape := ⟨2, ![1024, 3840]⟩
abbrev S1x768 : Shape := ⟨2, ![1, 768]⟩
abbrev S16384x3840 : Shape := ⟨2, ![16384, 3840]⟩
abbrev S512x1024 : Shape := ⟨2, ![512, 1024]⟩
abbrev S512x3840 : Shape := ⟨2, ![512, 3840]⟩
abbrev S512 : Shape := ⟨1, ![512]⟩
abbrev S512x1 : Shape := ⟨2, ![512, 1]⟩
abbrev S1x128 : Shape := ⟨2, ![1, 128]⟩
abbrev S1024x768 : Shape := ⟨2, ![1024, 768]⟩
abbrev S512x768 : Shape := ⟨2, ![512, 768]⟩
abbrev S512x128 : Shape := ⟨2, ![512, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3840, .bf16⟩
  | .hbm, ⟨3, _⟩ => ⟨S1x768, .f32⟩
  | .hbm, ⟨4, _⟩ => ⟨S16384x3840, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S1x768, .f32⟩
  | .local _ .vmem, ⟨5, _⟩ => ⟨S512x3840, .bf16⟩
  | .local _ .vmem, ⟨6, _⟩ => ⟨S512x3840, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S16384x1024 : Shape := ⟨2, ![16384, 1024]⟩
abbrev S1x1024 : Shape := ⟨2, ![1, 1024]⟩
abbrev S1024x3840 : Shape := ⟨2, ![1024, 3840]⟩
abbrev S1x768 : Shape := ⟨2, ![1, 768]⟩
abbrev S_ : Shape := ⟨0, ![]⟩
abbrev S16384 : Shape := ⟨1, ![16384]⟩
abbrev S16384x1 : Shape := ⟨2, ![16384, 1]⟩
abbrev S16384x3840 : Shape := ⟨2, ![16384, 3840]⟩
abbrev S16384x768 : Shape := ⟨2, ![16384, 768]⟩
abbrev S16384x12x64 : Shape := ⟨3, ![16384, 12, 64]⟩
abbrev S12x64 : Shape := ⟨2, ![12, 64]⟩
abbrev S16384x12 : Shape := ⟨2, ![16384, 12]⟩
abbrev S16384x12x1 : Shape := ⟨3, ![16384, 12, 1]⟩
abbrev S1x12x64 : Shape := ⟨3, ![1, 12, 64]⟩
abbrev S16384x3072 : Shape := ⟨2, ![16384, 3072]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3840, .bf16⟩
  | .hbm, ⟨3, _⟩ => ⟨S1x768, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x3840, .f32⟩
  | .hbm, ⟨20, _⟩ => ⟨S16384x3840, .f32⟩
  | .hbm, ⟨21, _⟩ => ⟨S16384x768, .f32⟩
  | .hbm, ⟨22, _⟩ => ⟨S16384x12x64, .f32⟩
  | .hbm, ⟨23, _⟩ => ⟨S12x64, .f32⟩
  | .hbm, ⟨24, _⟩ => ⟨S16384x12x64, .f32⟩
  | .hbm, ⟨25, _⟩ => ⟨S_, .f32⟩
  | .hbm, ⟨26, _⟩ => ⟨S16384x12, .f32⟩
  | .hbm, ⟨27, _⟩ => ⟨S16384x12x1, .f32⟩
  | .hbm, ⟨28, _⟩ => ⟨S_, .f32⟩
  | .hbm, ⟨29, _⟩ => ⟨S16384x12x1, .f32⟩
  | .hbm, ⟨30, _⟩ => ⟨S16384x12x1, .f32⟩
  | .hbm, ⟨31, _⟩ => ⟨S_, .f32⟩
  | .hbm, ⟨32, _⟩ => ⟨S16384x12x1, .f32⟩
  | .hbm, ⟨33, _⟩ => ⟨S16384x12x1, .f32⟩
  | .hbm, ⟨34, _⟩ => ⟨S16384x12x1, .f32⟩
  | .hbm, ⟨35, _⟩ => ⟨S16384x12x64, .f32⟩
  | .hbm, ⟨36, _⟩ => ⟨S16384x12x64, .f32⟩
  | .hbm, ⟨37, _⟩ => ⟨S1x12x64, .f32⟩
  | .hbm, ⟨38, _⟩ => ⟨S16384x12x64, .f32⟩
  | .hbm, ⟨39, _⟩ => ⟨S16384x12x64, .f32⟩
  | .hbm, ⟨40, _⟩ => ⟨S16384x768, .f32⟩
  | .hbm, ⟨41, _⟩ => ⟨S16384x3072, .f32⟩
  | .hbm, ⟨42, _⟩ => ⟨S16384x3840, .f32⟩
  | .hbm, ⟨43, _⟩ => ⟨S16384x3840, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Conv.lean ====
abbrev S16384x3840 : Shape := ⟨2, ![16384, 3840]⟩
abbrev S31x256 : Shape := ⟨2, ![31, 256]⟩
abbrev S1x256 : Shape := ⟨2, ![1, 256]⟩
abbrev S16384x256 : Shape := ⟨2, ![16384, 256]⟩
abbrev S512x512 : Shape := ⟨2, ![512, 512]⟩
abbrev S512x256 : Shape := ⟨2, ![512, 256]⟩
abbrev S544x256 : Shape := ⟨2, ![544, 256]⟩
abbrev S32x256 : Shape := ⟨2, ![32, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x3840, .bf16⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S16384x256, .bf16⟩
  | .local _ .vmem, ⟨0, _⟩ => ⟨S512x512, .bf16⟩
  | .local _ .vmem, ⟨1, _⟩ => ⟨S512x512, .bf16⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S512x256, .bf16⟩
  | .local _ .vmem, ⟨7, _⟩ => ⟨S512x256, .bf16⟩
  | .local _ .vmem, ⟨8, _⟩ => ⟨S544x256, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16384x3840 : Shape := ⟨2, ![16384, 3840]⟩
abbrev S31x256 : Shape := ⟨2, ![31, 256]⟩
abbrev S1x256 : Shape := ⟨2, ![1, 256]⟩
abbrev S16384x512 : Shape := ⟨2, ![16384, 512]⟩
abbrev S4x4096x512 : Shape := ⟨3, ![4, 4096, 512]⟩
abbrev S4x4096x256 : Shape := ⟨3, ![4, 4096, 256]⟩
abbrev S_ : Shape := ⟨0, ![]⟩
abbrev S4x30x256 : Shape := ⟨3, ![4, 30, 256]⟩
abbrev S4x4126x256 : Shape := ⟨3, ![4, 4126, 256]⟩
abbrev S256 : Shape := ⟨1, ![256]⟩
abbrev S1x1x256 : Shape := ⟨3, ![1, 1, 256]⟩
abbrev S4x4096 : Shape := ⟨2, ![4, 4096]⟩
abbrev S4x4096x1 : Shape := ⟨3, ![4, 4096, 1]⟩
abbrev S16384x256 : Shape := ⟨2, ![16384, 256]⟩

abbrev nBuf : Space → Nat
  | .hbm => 287
  | .vmem => 0
  | .smem => 0
  | _ => 0

abbrev hbmTy0_0 (i : Nat) : BufTy := match i % 128 with
  | 0 => ⟨S16384x3840, .bf16⟩
  | 1 => ⟨S31x256, .f32⟩
  | 2 => ⟨S1x256, .f32⟩
  | 3 => ⟨S1x256, .f32⟩
  | 4 => ⟨S1x256, .f32⟩
  | 5 => ⟨S16384x512, .bf16⟩
  | 6 => ⟨S16384x512, .f32⟩
  | 7 => ⟨S4x4096x512, .f32⟩
  | 8 => ⟨S4x4096x256, .f32⟩
  | 9 => ⟨S4x4096x256, .f32⟩
  | 10 => ⟨S4x4096x256, .f32⟩
  | 11 => ⟨S4x4096x256, .f32⟩
  | 12 => ⟨S_, .f32⟩
  | 13 => ⟨S4x4096x256, .f32⟩
  | 14 => ⟨S4x4096x256, .f32⟩
  | 15 => ⟨S_, .f32⟩
  | 16 => ⟨S4x4096x256, .f32⟩
  | 17 => ⟨S4x4096x256, .f32⟩
  | 18 => ⟨S4x4096x256, .f32⟩
  | 19 => ⟨S_, .f32⟩
  | 20 => ⟨S4x30x256, .f32⟩
  | 21 => ⟨S4x4126x256, .f32⟩
  | 22 => ⟨S4x4096x256, .f32⟩
  | 23 => ⟨S1x256, .f32⟩
  | 24 => ⟨S256, .f32⟩
  | 25 => ⟨S1x1x256, .f32⟩
  | 26 => ⟨S4x4096x256, .f32⟩
  | 27 => ⟨S4x4096x256, .f32⟩
  | 28 => ⟨S_, .f32⟩
  | 29 => ⟨S4x4096x256, .f32⟩
  | 30 => ⟨S4x4096x256, .f32⟩
  | 31 => ⟨S4x4096x256, .f32⟩
  | 32 => ⟨S1x256, .f32⟩
  | 33 => ⟨S256, .f32⟩
  | 34 => ⟨S1x1x256, .f32⟩
  | 35 => ⟨S4x4096x256, .f32⟩
  | 36 => ⟨S4x4096x256, .f32⟩
  | 37 => ⟨S4x4096x256, .f32⟩
  | 38 => ⟨S4x4096x256, .f32⟩
  | 39 => ⟨S1x256, .f32⟩
  | 40 => ⟨S256, .f32⟩
  | 41 => ⟨S1x1x256, .f32⟩
  | 42 => ⟨S4x4096x256, .f32⟩
  | 43 => ⟨S4x4096x256, .f32⟩
  | 44 => ⟨S4x4096x256, .f32⟩
  | 45 => ⟨S4x4096x256, .f32⟩
  | 46 => ⟨S1x256, .f32⟩
  | 47 => ⟨S256, .f32⟩
  | 48 => ⟨S1x1x256, .f32⟩
  | 49 => ⟨S4x4096x256, .f32⟩
  | 50 => ⟨S4x4096x256, .f32⟩
  | 51 => ⟨S4x4096x256, .f32⟩
  | 52 => ⟨S4x4096x256, .f32⟩
  | 53 => ⟨S1x256, .f32⟩
  | 54 => ⟨S256, .f32⟩
  | 55 => ⟨S1x1x256, .f32⟩
  | 56 => ⟨S4x4096x256, .f32⟩
  | 57 => ⟨S4x4096x256, .f32⟩
  | 58 => ⟨S4x4096x256, .f32⟩
  | 59 => ⟨S4x4096x256, .f32⟩
  | 60 => ⟨S1x256, .f32⟩
  | 61 => ⟨S256, .f32⟩
  | 62 => ⟨S1x1x256, .f32⟩
  | 63 => ⟨S4x4096x256, .f32⟩
  | 64 => ⟨S4x4096x256, .f32⟩
  | 65 => ⟨S4x4096x256, .f32⟩
  | 66 => ⟨S4x4096x256, .f32⟩
  | 67 => ⟨S1x256, .f32⟩
  | 68 => ⟨S256, .f32⟩
  | 69 => ⟨S1x1x256, .f32⟩
  | 70 => ⟨S4x4096x256, .f32⟩
  | 71 => ⟨S4x4096x256, .f32⟩
  | 72 => ⟨S4x4096x256, .f32⟩
  | 73 => ⟨S4x4096x256, .f32⟩
  | 74 => ⟨S1x256, .f32⟩
  | 75 => ⟨S256, .f32⟩
  | 76 => ⟨S1x1x256, .f32⟩
  | 77 => ⟨S4x4096x256, .f32⟩
  | 78 => ⟨S4x4096x256, .f32⟩
  | 79 => ⟨S4x4096x256, .f32⟩
  | 80 => ⟨S4x4096x256, .f32⟩
  | 81 => ⟨S1x256, .f32⟩
  | 82 => ⟨S256, .f32⟩
  | 83 => ⟨S1x1x256, .f32⟩
  | 84 => ⟨S4x4096x256, .f32⟩
  | 85 => ⟨S4x4096x256, .f32⟩
  | 86 => ⟨S4x4096x256, .f32⟩
  | 87 => ⟨S4x4096x256, .f32⟩
  | 88 => ⟨S1x256, .f32⟩
  | 89 => ⟨S256, .f32⟩
  | 90 => ⟨S1x1x256, .f32⟩
  | 91 => ⟨S4x4096x256, .f32⟩
  | 92 => ⟨S4x4096x256, .f32⟩
  | 93 => ⟨S4x4096x256, .f32⟩
  | 94 => ⟨S4x4096x256, .f32⟩
  | 95 => ⟨S1x256, .f32⟩
  | 96 => ⟨S256, .f32⟩
  | 97 => ⟨S1x1x256, .f32⟩
  | 98 => ⟨S4x4096x256, .f32⟩
  | 99 => ⟨S4x4096x256, .f32⟩
  | 100 => ⟨S4x4096x256, .f32⟩
  | 101 => ⟨S4x4096x256, .f32⟩
  | 102 => ⟨S1x256, .f32⟩
  | 103 => ⟨S256, .f32⟩
  | 104 => ⟨S1x1x256, .f32⟩
  | 105 => ⟨S4x4096x256, .f32⟩
  | 106 => ⟨S4x4096x256, .f32⟩
  | 107 => ⟨S4x4096x256, .f32⟩
  | 108 => ⟨S4x4096x256, .f32⟩
  | 109 => ⟨S1x256, .f32⟩
  | 110 => ⟨S256, .f32⟩
  | 111 => ⟨S1x1x256, .f32⟩
  | 112 => ⟨S4x4096x256, .f32⟩
  | 113 => ⟨S4x4096x256, .f32⟩
  | 114 => ⟨S4x4096x256, .f32⟩
  | 115 => ⟨S4x4096x256, .f32⟩
  | 116 => ⟨S1x256, .f32⟩
  | 117 => ⟨S256, .f32⟩
  | 118 => ⟨S1x1x256, .f32⟩
  | 119 => ⟨S4x4096x256, .f32⟩
  | 120 => ⟨S4x4096x256, .f32⟩
  | 121 => ⟨S4x4096x256, .f32⟩
  | 122 => ⟨S4x4096x256, .f32⟩
  | 123 => ⟨S1x256, .f32⟩
  | 124 => ⟨S256, .f32⟩
  | 125 => ⟨S1x1x256, .f32⟩
  | 126 => ⟨S4x4096x256, .f32⟩
  | 127 => ⟨S4x4096x256, .f32⟩
  | _ => ⟨S16384x3840, .bf16⟩

abbrev hbmTy0_1 (i : Nat) : BufTy := match i % 128 with
  | 0 => ⟨S4x4096x256, .f32⟩
  | 1 => ⟨S4x4096x256, .f32⟩
  | 2 => ⟨S1x256, .f32⟩
  | 3 => ⟨S256, .f32⟩
  | 4 => ⟨S1x1x256, .f32⟩
  | 5 => ⟨S4x4096x256, .f32⟩
  | 6 => ⟨S4x4096x256, .f32⟩
  | 7 => ⟨S4x4096x256, .f32⟩
  | 8 => ⟨S4x4096x256, .f32⟩
  | 9 => ⟨S1x256, .f32⟩
  | 10 => ⟨S256, .f32⟩
  | 11 => ⟨S1x1x256, .f32⟩
  | 12 => ⟨S4x4096x256, .f32⟩
  | 13 => ⟨S4x4096x256, .f32⟩
  | 14 => ⟨S4x4096x256, .f32⟩
  | 15 => ⟨S4x4096x256, .f32⟩
  | 16 => ⟨S1x256, .f32⟩
  | 17 => ⟨S256, .f32⟩
  | 18 => ⟨S1x1x256, .f32⟩
  | 19 => ⟨S4x4096x256, .f32⟩
  | 20 => ⟨S4x4096x256, .f32⟩
  | 21 => ⟨S4x4096x256, .f32⟩
  | 22 => ⟨S4x4096x256, .f32⟩
  | 23 => ⟨S1x256, .f32⟩
  | 24 => ⟨S256, .f32⟩
  | 25 => ⟨S1x1x256, .f32⟩
  | 26 => ⟨S4x4096x256, .f32⟩
  | 27 => ⟨S4x4096x256, .f32⟩
  | 28 => ⟨S4x4096x256, .f32⟩
  | 29 => ⟨S4x4096x256, .f32⟩
  | 30 => ⟨S1x256, .f32⟩
  | 31 => ⟨S256, .f32⟩
  | 32 => ⟨S1x1x256, .f32⟩
  | 33 => ⟨S4x4096x256, .f32⟩
  | 34 => ⟨S4x4096x256, .f32⟩
  | 35 => ⟨S4x4096x256, .f32⟩
  | 36 => ⟨S4x4096x256, .f32⟩
  | 37 => ⟨S1x256, .f32⟩
  | 38 => ⟨S256, .f32⟩
  | 39 => ⟨S1x1x256, .f32⟩
  | 40 => ⟨S4x4096x256, .f32⟩
  | 41 => ⟨S4x4096x256, .f32⟩
  | 42 => ⟨S4x4096x256, .f32⟩
  | 43 => ⟨S4x4096x256, .f32⟩
  | 44 => ⟨S1x256, .f32⟩
  | 45 => ⟨S256, .f32⟩
  | 46 => ⟨S1x1x256, .f32⟩
  | 47 => ⟨S4x4096x256, .f32⟩
  | 48 => ⟨S4x4096x256, .f32⟩
  | 49 => ⟨S4x4096x256, .f32⟩
  | 50 => ⟨S4x4096x256, .f32⟩
  | 51 => ⟨S1x256, .f32⟩
  | 52 => ⟨S256, .f32⟩
  | 53 => ⟨S1x1x256, .f32⟩
  | 54 => ⟨S4x4096x256, .f32⟩
  | 55 => ⟨S4x4096x256, .f32⟩
  | 56 => ⟨S4x4096x256, .f32⟩
  | 57 => ⟨S4x4096x256, .f32⟩
  | 58 => ⟨S1x256, .f32⟩
  | 59 => ⟨S256, .f32⟩
  | 60 => ⟨S1x1x256, .f32⟩
  | 61 => ⟨S4x4096x256, .f32⟩
  | 62 => ⟨S4x4096x256, .f32⟩
  | 63 => ⟨S4x4096x256, .f32⟩
  | 64 => ⟨S4x4096x256, .f32⟩
  | 65 => ⟨S1x256, .f32⟩
  | 66 => ⟨S256, .f32⟩
  | 67 => ⟨S1x1x256, .f32⟩
  | 68 => ⟨S4x4096x256, .f32⟩
  | 69 => ⟨S4x4096x256, .f32⟩
  | 70 => ⟨S4x4096x256, .f32⟩
  | 71 => ⟨S4x4096x256, .f32⟩
  | 72 => ⟨S1x256, .f32⟩
  | 73 => ⟨S256, .f32⟩
  | 74 => ⟨S1x1x256, .f32⟩
  | 75 => ⟨S4x4096x256, .f32⟩
  | 76 => ⟨S4x4096x256, .f32⟩
  | 77 => ⟨S4x4096x256, .f32⟩
  | 78 => ⟨S4x4096x256, .f32⟩
  | 79 => ⟨S1x256, .f32⟩
  | 80 => ⟨S256, .f32⟩
  | 81 => ⟨S1x1x256, .f32⟩
  | 82 => ⟨S4x4096x256, .f32⟩
  | 83 => ⟨S4x4096x256, .f32⟩
  | 84 => ⟨S4x4096x256, .f32⟩
  | 85 => ⟨S4x4096x256, .f32⟩
  | 86 => ⟨S1x256, .f32⟩
  | 87 => ⟨S256, .f32⟩
  | 88 => ⟨S1x1x256, .f32⟩
  | 89 => ⟨S4x4096x256, .f32⟩
  | 90 => ⟨S4x4096x256, .f32⟩
  | 91 => ⟨S4x4096x256, .f32⟩
  | 92 => ⟨S4x4096x256, .f32⟩
  | 93 => ⟨S1x256, .f32⟩
  | 94 => ⟨S256, .f32⟩
  | 95 => ⟨S1x1x256, .f32⟩
  | 96 => ⟨S4x4096x256, .f32⟩
  | 97 => ⟨S4x4096x256, .f32⟩
  | 98 => ⟨S4x4096x256, .f32⟩
  | 99 => ⟨S4x4096x256, .f32⟩
  | 100 => ⟨S1x256, .f32⟩
  | 101 => ⟨S256, .f32⟩
  | 102 => ⟨S1x1x256, .f32⟩
  | 103 => ⟨S4x4096x256, .f32⟩
  | 104 => ⟨S4x4096x256, .f32⟩
  | 105 => ⟨S4x4096x256, .f32⟩
  | 106 => ⟨S4x4096x256, .f32⟩
  | 107 => ⟨S1x256, .f32⟩
  | 108 => ⟨S256, .f32⟩
  | 109 => ⟨S1x1x256, .f32⟩
  | 110 => ⟨S4x4096x256, .f32⟩
  | 111 => ⟨S4x4096x256, .f32⟩
  | 112 => ⟨S4x4096x256, .f32⟩
  | 113 => ⟨S256, .f32⟩
  | 114 => ⟨S1x1x256, .f32⟩
  | 115 => ⟨S4x4096x256, .f32⟩
  | 116 => ⟨S4x4096x256, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S4x4096x256, .f32⟩
  | 124 => ⟨S4x4096x256, .f32⟩
  | 125 => ⟨S4x4096x256, .f32⟩
  | 126 => ⟨S_, .f32⟩
  | 127 => ⟨S4x4096, .f32⟩
  | _ => ⟨S16384x3840, .bf16⟩

abbrev hbmTy0_2 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x256, .f32⟩
  | 5 => ⟨S4x4096x256, .f32⟩
  | 6 => ⟨S_, .f32⟩
  | 7 => ⟨S4x4096x1, .f32⟩
  | 8 => ⟨S4x4096x1, .f32⟩
  | 9 => ⟨S4x4096x1, .f32⟩
  | 10 => ⟨S4x4096x256, .f32⟩
  | 11 => ⟨S4x4096x256, .f32⟩
  | 12 => ⟨S256, .f32⟩
  | 13 => ⟨S1x1x256, .f32⟩
  | 14 => ⟨S4x4096x256, .f32⟩
  | 15 => ⟨S4x4096x256, .f32⟩
  | 16 => ⟨S256, .f32⟩
  | 17 => ⟨S1x1x256, .f32⟩
  | 18 => ⟨S4x4096x256, .f32⟩
  | 19 => ⟨S4x4096x256, .f32⟩
  | 20 => ⟨S4x4096x256, .f32⟩
  | 21 => ⟨S4x4096x256, .f32⟩
  | 22 => ⟨S_, .f32⟩
  | 23 => ⟨S4x4096x256, .f32⟩
  | 24 => ⟨S4x4096x256, .f32⟩
  | 25 => ⟨S_, .f32⟩
  | 26 => ⟨S4x4096x256, .f32⟩
  | 27 => ⟨S4x4096x256, .f32⟩
  | 28 => ⟨S4x4096x256, .f32⟩
  | 29 => ⟨S4x4096x256, .bf16⟩
  | 30 => ⟨S16384x256, .bf16⟩
  | _ => ⟨S16384x3840, .bf16⟩

abbrev hbmTy (i : Nat) : BufTy := match i / 128 with
  | 0 => hbmTy0_0 i
  | 1 => hbmTy0_1 i
  | 2 => hbmTy0_2 i
  | _ => ⟨S16384x3840, .bf16⟩

abbrev bufTy : (tb : Table) → Fin (tcTables nBuf tb) → BufTy
  | .hbm, ⟨i, _⟩ => hbmTy i
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_cst_7 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_call0_v0 : Ref sig .tc := ⟨.hbm, 276, rfl⟩
abbrev main_call0_v1 : Ref sig .tc := ⟨.hbm, 277, rfl⟩
abbrev main_call0_cst : Ref sig .tc := ⟨.hbm, 278, rfl⟩
abbrev main_call0_v2 : Ref sig .tc := ⟨.hbm, 279, rfl⟩
abbrev main_call0_v3 : Ref sig .tc := ⟨.hbm, 280, rfl⟩
abbrev main_call0_cst_0 : Ref sig .tc := ⟨.hbm, 281, rfl⟩
abbrev main_call0_v4 : Ref sig .tc := ⟨.hbm, 282, rfl⟩
abbrev main_call0_v5 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩

abbrev nD : Nat := 1
abbrev τ : Topo := Topo.v7x

variable {F : FTy → Type} [FloatOps F]
-- ==== Post.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1x1024 : Shape := ⟨2, ![1, 1024]⟩
abbrev S1024x256 : Shape := ⟨2, ![1024, 256]⟩
abbrev S1x256 : Shape := ⟨2, ![1, 256]⟩
abbrev S4096x256 : Shape := ⟨2, ![4096, 256]⟩
abbrev S256x1024 : Shape := ⟨2, ![256, 1024]⟩
abbrev S128x1024 : Shape := ⟨2, ![128, 1024]⟩
abbrev S128x1 : Shape := ⟨2, ![128, 1]⟩
abbrev S256x256 : Shape := ⟨2, ![256, 256]⟩
abbrev S1024 : Shape := ⟨1, ![1024]⟩
abbrev S1024x1 : Shape := ⟨2, ![1024, 1]⟩
abbrev S_ : Shape := ⟨0, ![]⟩
abbrev S256 : Shape := ⟨1, ![256]⟩
abbrev S16384x1152 : Shape := ⟨2, ![16384, 1152]⟩
abbrev S8x16384 : Shape := ⟨2, ![8, 16384]⟩
abbrev S512x1024 : Shape := ⟨2, ![512, 1024]⟩
abbrev S512x384 : Shape := ⟨2, ![512, 384]⟩
abbrev S512x256 : Shape := ⟨2, ![512, 256]⟩
abbrev S512x1152 : Shape := ⟨2, ![512, 1152]⟩
abbrev S8x512 : Shape := ⟨2, ![8, 512]⟩
abbrev S384x1024 : Shape := ⟨2, ![384, 1024]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S3x512 : Shape := ⟨2, ![3, 512]⟩
abbrev S5x512 : Shape := ⟨2, ![5, 512]⟩
abbrev S125x512 : Shape := ⟨2, ![125, 512]⟩
abbrev S512x128 : Shape := ⟨2, ![512, 128]⟩

abbrev nBuf : Space → Nat
  | .hbm => 63
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .bf16⟩
  | .hbm, ⟨5, _⟩ => ⟨S1x1024, .f32⟩
  | .hbm, ⟨6, _⟩ => ⟨S1024x256, .bf16⟩
  | .hbm, ⟨7, _⟩ => ⟨S1x256, .f32⟩
  | .hbm, ⟨8, _⟩ => ⟨S4096x256, .bf16⟩
  | .hbm, ⟨9, _⟩ => ⟨S4096x256, .bf16⟩
  | .hbm, ⟨10, _⟩ => ⟨S256x1024, .bf16⟩
  | .hbm, ⟨11, _⟩ => ⟨S1x1024, .f32⟩
  | .hbm, ⟨12, _⟩ => ⟨S128x1024, .f32⟩
  | .hbm, ⟨13, _⟩ => ⟨S128x1, .f32⟩
  | .hbm, ⟨14, _⟩ => ⟨S256x256, .f32⟩
  | .hbm, ⟨15, _⟩ => ⟨S256x256, .bf16⟩
  | .hbm, ⟨16, _⟩ => ⟨S1024, .i32⟩
  | .hbm, ⟨17, _⟩ => ⟨S1024x1, .i32⟩
  | .hbm, ⟨18, _⟩ => ⟨S_, .i32⟩
  | .hbm, ⟨19, _⟩ => ⟨S_, .i32⟩
  | .hbm, ⟨20, _⟩ => ⟨S1024x1, .i32⟩
  | .hbm, ⟨21, _⟩ => ⟨S1024x1, .i32⟩
  | .hbm, ⟨22, _⟩ => ⟨S1024x1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1024x1, .i32⟩
  | .hbm, ⟨27, _⟩ => ⟨S1024x1, .i32⟩
  | .hbm, ⟨28, _⟩ => ⟨S_, .i32⟩
  | .hbm, ⟨29, _⟩ => ⟨S1024x1, .i32⟩
  | .hbm, ⟨30, _⟩ => ⟨S1024x1, .i1⟩
  | .hbm, ⟨31, _⟩ => ⟨S1024x1, .i1⟩
  | .hbm, ⟨32, _⟩ => ⟨S_, .i32⟩
  | .hbm, ⟨33, _⟩ => ⟨S1024x1, .i32⟩
  | .hbm, ⟨34, _⟩ => ⟨S1024x1, .i32⟩
  | .hbm, ⟨35, _⟩ => ⟨S1024x1, .i32⟩
  | .hbm, ⟨36, _⟩ => ⟨S256, .i32⟩
  | .hbm, ⟨37, _⟩ => ⟨S1x256, .i32⟩
  | .hbm, ⟨38, _⟩ => ⟨S_, .i32⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i32⟩
  | .hbm, ⟨47, _⟩ => ⟨S1x256, .i32⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x256, .i1⟩
  | .hbm, ⟨52, _⟩ => ⟨S_, .i32⟩
  | .hbm, ⟨53, _⟩ => ⟨S1x256, .i32⟩
  | .hbm, ⟨54, _⟩ => ⟨S1x256, .i32⟩
  | .hbm, ⟨55, _⟩ => ⟨S1x256, .i32⟩
  | .hbm, ⟨56, _⟩ => ⟨S1024x256, .i32⟩
  | .hbm, ⟨57, _⟩ => ⟨S1024x256, .i32⟩
  | .hbm, ⟨58, _⟩ => ⟨S1024x256, .i1⟩
  | .hbm, ⟨59, _⟩ => ⟨S1024x256, .bf16⟩
  | .hbm, ⟨60, _⟩ => ⟨S16384x1024, .f32⟩
  | .hbm, ⟨61, _⟩ => ⟨S16384x1152, .f32⟩
  | .hbm, ⟨62, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S1x256, .f32⟩
  | .local _ .vmem, ⟨12, _⟩ => ⟨S256x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S256x1024, .bf16⟩
  | .local _ .vmem, ⟨19, _⟩ => ⟨S1x1024, .f32⟩
  | .local _ .vmem, ⟨20, _⟩ => ⟨S128x1024, .f32⟩
  | .local _ .vmem, ⟨21, _⟩ => ⟨S128x1, .f32⟩
  | .local _ .vmem, ⟨22, _⟩ => ⟨S512x1024, .f32⟩
  | .local _ .vmem, ⟨23, _⟩ => ⟨S512x1024, .f32⟩
  | .local _ .vmem, ⟨24, _⟩ => ⟨S512x1152, .f32⟩
  | .local _ .vmem, ⟨25, _⟩ => ⟨S512x1152, .f32⟩
  | .local _ .vmem, ⟨26, _⟩ => ⟨S8x512, .f32⟩
  | .local _ .vmem, ⟨27, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11_0 : Ref sig .tc := ⟨.hbm, 60, rfl⟩
abbrev main_v11_1 : Ref sig .tc := ⟨.hbm, 61, rfl⟩
abbrev main_v11_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1152 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PostRefIdeal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1x1024 : Shape := ⟨2, ![1, 1024]⟩
abbrev S1024x256 : Shape := ⟨2, ![1024, 256]⟩
abbrev S1x256 : Shape := ⟨2, ![1, 256]⟩
abbrev S4096x256 : Shape := ⟨2, ![4096, 256]⟩
abbrev S256x1024 : Shape := ⟨2, ![256, 1024]⟩
abbrev S128x1024 : Shape := ⟨2, ![128, 1024]⟩
abbrev S128x1 : Shape := ⟨2, ![128, 1]⟩
abbrev S_ : Shape := ⟨0, ![]⟩
abbrev S16384 : Shape := ⟨1, ![16384]⟩
abbrev S16384x1 : Shape := ⟨2, ![16384, 1]⟩
abbrev S4x4096x4x64 : Shape := ⟨4, ![4, 4096, 4, 64]⟩
abbrev S4x64 : Shape := ⟨2, ![4, 64]⟩
abbrev S4x4096x4 : Shape := ⟨3, ![4, 4096, 4]⟩
abbrev S4x4096x4x1 : Shape := ⟨4, ![4, 4096, 4, 1]⟩
abbrev S1x1x4x64 : Shape := ⟨4, ![1, 1, 4, 64]⟩
abbrev S4x4x256x4x64 : Shape := ⟨5, ![4, 4, 256, 4, 64]⟩
abbrev S4x1x256x1x64 : Shape := ⟨5, ![4, 1, 256, 1, 64]⟩
abbrev S4x256x64 : Shape := ⟨3, ![4, 256, 64]⟩
abbrev S4x256x1x64 : Shape := ⟨4, ![4, 256, 1, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .bf16⟩
  | .hbm, ⟨5, _⟩ => ⟨S1x1024, .f32⟩
  | .hbm, ⟨6, _⟩ => ⟨S1024x256, .bf16⟩
  | .hbm, ⟨7, _⟩ => ⟨S1x256, .f32⟩
  | .hbm, ⟨8, _⟩ => ⟨S4096x256, .bf16⟩
  | .hbm, ⟨9, _⟩ => ⟨S4096x256, .bf16⟩
  | .hbm, ⟨10, _⟩ => ⟨S256x1024, .bf16⟩
  | .hbm, ⟨11, _⟩ => ⟨S1x1024, .f32⟩
  | .hbm, ⟨12, _⟩ => ⟨S128x1024, .f32⟩
  | .hbm, ⟨13, _⟩ => ⟨S128x1, .f32⟩
  | .hbm, ⟨14, _⟩ => ⟨S16384x1024, .bf16⟩
  | .hbm, ⟨15, _⟩ => ⟨S16384x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x256, .f32⟩
  | .hbm, ⟨35, _⟩ => ⟨S16384x256, .f32⟩
  | .hbm, ⟨36, _⟩ => ⟨S4x4096x4x64, .f32⟩
  | .hbm, ⟨37, _⟩ => ⟨S4x64, .f32⟩
  | .hbm, ⟨38, _⟩ => ⟨S4x4096x4x64, .f32⟩
  | .hbm, ⟨39, _⟩ => ⟨S_, .f32⟩
  | .hbm, ⟨40, _⟩ => ⟨S4x4096x4, .f32⟩
  | .hbm, ⟨41, _⟩ => ⟨S4x4096x4x1, .f32⟩
  | .hbm, ⟨42, _⟩ => ⟨S_, .f32⟩
  | .hbm, ⟨43, _⟩ => ⟨S4x4096x4x1, .f32⟩
  | .hbm, ⟨44, _⟩ => ⟨S4x4096x4x1, .f32⟩
  | .hbm, ⟨45, _⟩ => ⟨S_, .f32⟩
  | .hbm, ⟨46, _⟩ => ⟨S4x4096x4x1, .f32⟩
  | .hbm, ⟨47, _⟩ => ⟨S4x4096x4x1, .f32⟩
  | .hbm, ⟨48, _⟩ => ⟨S4x4096x4x1, .f32⟩
  | .hbm, ⟨49, _⟩ => ⟨S4x4096x4x64, .f32⟩
  | .hbm, ⟨50, _⟩ => ⟨S4x4096x4x64, .f32⟩
  | .hbm, ⟨51, _⟩ => ⟨S1x1x4x64, .f32⟩
  | .hbm, ⟨52, _⟩ => ⟨S4x4096x4x64, .f32⟩
  | .hbm, ⟨53, _⟩ => ⟨S4x4096x4x64, .f32⟩
  | .hbm, ⟨54, _⟩ => ⟨S4096x256, .f32⟩
  | .hbm, ⟨55, _⟩ => ⟨S4x4x256x4x64, .f32⟩
  | .hbm, ⟨56, _⟩ => ⟨S4x1x256x1x64, .f32⟩
  | .hbm, ⟨57, _⟩ => ⟨S4x256x64, .f32⟩
  | .hbm, ⟨58, _⟩ => ⟨S4x1x256x1x64, .f32⟩
  | .hbm, ⟨59, _⟩ => ⟨S4x256x64, .f32⟩
  | .hbm, ⟨60, _⟩ => ⟨S4x1x256x1x64, .f32⟩
  | .hbm, ⟨61, _⟩ => ⟨S4x256x64, .f32⟩
  | .hbm, ⟨62, _⟩ => ⟨S4x1x256x1x64, .f32⟩
  | .hbm, ⟨63, _⟩ => ⟨S4x256x64, .f32⟩
  | .hbm, ⟨64, _⟩ => ⟨S4x256x1x64, .f32⟩
  | .hbm, ⟨65, _⟩ => ⟨S4x256x1x64, .f32⟩
  | .hbm, ⟨66, _⟩ => ⟨S4x256x1x64, .f32⟩
  | .hbm, ⟨67, _⟩ => ⟨S4x256x1x64, .f32⟩
  | .hbm, ⟨68, _⟩ => ⟨S4x256x4x64, .f32⟩
  | .hbm, ⟨69, _⟩ => ⟨S4096x256, .f32⟩
  | .hbm, ⟨70, _⟩ => ⟨S4x4x256x4x64, .f32⟩
  | .hbm, ⟨71, _⟩ => ⟨S4x1x256x1x64, .f32⟩
  | .hbm, ⟨72, _⟩ => ⟨S4x256x64, .f32⟩
  | .hbm, ⟨73, _⟩ => ⟨S4x1x256x1x64, .f32⟩
  | .hbm, ⟨74, _⟩ => ⟨S4x256x64, .f32⟩
  | .hbm, ⟨75, _⟩ => ⟨S4x1x256x1x64, .f32⟩
  | .hbm, ⟨76, _⟩ => ⟨S4x256x64, .f32⟩
  | .hbm, ⟨77, _⟩ => ⟨S4x1x256x1x64, .f32⟩
  | .hbm, ⟨78, _⟩ => ⟨S4x256x64, .f32⟩
  | .hbm, ⟨79, _⟩ => ⟨S4x256x1x64, .f32⟩
  | .hbm, ⟨80, _⟩ => ⟨S4x256x1x64, .f32⟩
  | .hbm, ⟨81, _⟩ => ⟨S4x256x1x64, .f32⟩
  | .hbm, ⟨82, _⟩ => ⟨S4x256x1x64, .f32⟩
  | .hbm, ⟨83, _⟩ => ⟨S4x256x4x64, .f32⟩
  | .hbm, ⟨84, _⟩ => ⟨S4x4x4096x256, .f32⟩
  | .hbm, ⟨85, _⟩ => ⟨S_, .f32⟩
  | .hbm, ⟨86, _⟩ => ⟨S4x4x4096, .f32⟩
  | .hbm, ⟨87, _⟩ => ⟨S_, .f32⟩
  | .hbm, ⟨88, _⟩ => ⟨S4x4x4096, .f32⟩
  | .hbm, ⟨89, _⟩ => ⟨S4x4x4096, .f32⟩
  | .hbm, ⟨90, _⟩ => ⟨S4x4x4096x1, .f32⟩
  | .hbm, ⟨91, _⟩ => ⟨S4x4x4096x256, .f32⟩
  | .hbm, ⟨92, _⟩ => ⟨S4x4x4096x256, .f32⟩
  | .hbm, ⟨93, _⟩ => ⟨S4x4x4096x256, .f32⟩
  | .hbm, ⟨94, _⟩ => ⟨S_, .f32⟩
  | .hbm, ⟨95, _⟩ => ⟨S4x4x4096, .f32⟩
  | .hbm, ⟨96, _⟩ => ⟨S4x4x4096x1, .f32⟩
  | .hbm, ⟨97, _⟩ => ⟨S4x4x4096x256, .f32⟩
  | .hbm, ⟨98, _⟩ => ⟨S4x4x4096x256, .f32⟩
  | .hbm, ⟨99, _⟩ => ⟨S4x4x64x4096, .f32⟩
  | .hbm, ⟨100, _⟩ => ⟨S4x4096x4x64, .f32⟩
  | .hbm, ⟨101, _⟩ => ⟨S16384x256, .f32⟩
  | .hbm, ⟨102, _⟩ => ⟨S256x1024, .f32⟩
  | .hbm, ⟨103, _⟩ => ⟨S16384x1024, .f32⟩
  | .hbm, ⟨104, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Proof.ExpertsPre.lean ====
/- The two preconditions read back: the tables name experts 0 to 15, and the weights the rows give are not negative and not infinite. -/
module

public import proofs.«01_k».proof.Proof.Gen.Pre_experts_exist
public import proofs.«01_k».proof.Proof.Gen.Pre_routed
public import Idealize.ShloMosaic.Lib.ReduceAll
public import Idealize.ShloMosaic.Lib.Affine
public import Idealize.ShloMosaic.Lib.StableHlo.Predicate
public import Idealize.ShloMosaic.Lib.Pointwise

@[expose] public section

noncomputable section

namespace Cert.ExpertsPre

open Idealize.ShloMosaic

variable {F : FTy → Type} [FloatOps F]

instance : Subsingleton (Shape.Idx ⟨0, ![]⟩) := ⟨fun a b => funext fun i => i.elim0⟩

/-- A word at least 0 and less than 16, as signed comparisons say it, is a number below 16. -/
theorem small_of_bits (w : BitVec 32) (h : IntOp.andi (IntOp.cmpi .sge w 0#32) (IntOp.cmpi .slt w 16#32) = 1#1) : w.toNat < 16 := by
  obtain ⟨h0, h1⟩ := IntOp.andi_eq_one.1 h
  rw [IntOp.cmpi_sge] at h0
  rw [IntOp.cmpi_slt] at h1
  have e0 : (0#32 : BitVec 32).toInt = 0 := by decide
  have e1 : (16#32 : BitVec 32).toInt = 16 := by decide
  rw [e0] at h0
  rw [e1] at h1
  rw [BitVec.toInt_eq_toNat_cond] at h0 h1
  split at h0 <;> simp_all <;> omega

/-- What `experts_exist` says of the first two tables. -/
theorem of_experts_exist (a0 a1 a2 : IVec ⟨1, ![88]⟩ 32) (a3 : FVec F ⟨2, ![22528, 1152]⟩ .f32) (a4 a5 : FVec F ⟨3, ![16, 1024, 512]⟩ .bf16)
    (a6 : FVec F ⟨3, ![16, 512, 1024]⟩ .bf16) (h : Cert.Pre_experts_exist.fn a0 a1 a2 a3 a4 a5 a6 = fun _ => 1#1) :
    (∀ j, (a0 j).toNat < 16) ∧ ∀ j, (a1 j).toNat < 16 := by
  have h' := congrFun h (fun i => i.elim0)
  obtain ⟨hl, hr⟩ := IntOp.andi_eq_one.1 h'
  exact ⟨fun j => small_of_bits _ (Host.reduce_andi_all _ _ _ _ _ hl j), fun j => small_of_bits _ (Host.reduce_andi_all _ _ _ _ _ hr j)⟩

/-- What `routed` says of the first two tables. -/
theorem tables_of_routed (a0 a1 a2 : IVec ⟨1, ![88]⟩ 32) (a3 : FVec F ⟨2, ![22528, 1152]⟩ .f32) (a4 a5 : FVec F ⟨3, ![16, 1024, 512]⟩ .bf16)
    (a6 : FVec F ⟨3, ![16, 512, 1024]⟩ .bf16) (h : Cert.Pre_routed.fn a0 a1 a2 a3 a4 a5 a6 = fun _ => 1#1) :
    (∀ j, (a0 j).toNat < 16) ∧ ∀ j, (a1 j).toNat < 16 := by
  have h' := congrFun h (fun i => i.elim0)
  obtain ⟨hh, hg⟩ := IntOp.andi_eq_one.1 h'
  obtain ⟨hl, hr⟩ := IntOp.andi_eq_one.1 hh
  exact ⟨fun j => small_of_bits _ (Host.reduce_andi_all _ _ _ _ _ hl j), fun j => small_of_bits _ (Host.reduce_andi_all _ _ _ _ _ hr j)⟩

/-- What `routed` says of the rows' weights, over the extended reals. -/
theorem gates_of_routed (a0 a1 a2 : IVec ⟨1, ![88]⟩ 32) (a3 : FVec Ideal ⟨2, ![22528, 1152]⟩ .f32) (a4 a5 : FVec Ideal ⟨3, ![16, 1024, 512]⟩ .bf16)
    (a6 : FVec Ideal ⟨3, ![16, 512, 1024]⟩ .bf16) (h : Cert.Pre_routed.fn a0 a1 a2 a3 a4 a5 a6 = fun _ => 1#1)
    (r : Fin 22528) (k : Fin 2) (q : Fin 1152) (hq : q.val = 1025 + k.val) :
    (0 : EReal) ≤ a3 (ix2 r q) ∧ (a3 (ix2 r q) : EReal) ≠ ⊤ := by
  have h' := congrFun h (fun i => i.elim0)
  obtain ⟨hh, hg⟩ := IntOp.andi_eq_one.1 h'
  obtain ⟨h0, h1⟩ := IntOp.andi_eq_one.1 (Host.reduce_andi_all _ _ _ _ _ hg (ix2 r k))
  have e : ((extractStridedSlice Cert.Pre_routed.S22528x2 ![0, 1025] · Cert.Pre_routed.Facts.slices_S22528x1152_S22528x2_0_1025) a3) (ix2 r k) = a3 (ix2 r q) := by
    refine congrArg a3 ?_
    funext b
    apply Fin.ext
    fin_cases b
    · simp
    · simpa using hq.symm
  constructor
  · have h2 : BitVec.ofBool (decide ((Ideal.ofBits .f32 0x00000000#32 : EReal) ≤ ((extractStridedSlice Cert.Pre_routed.S22528x2 ![0, 1025] · Cert.Pre_routed.Facts.slices_S22528x1152_S22528x2_0_1025) a3) (ix2 r k))) = 1#1 := h0
    rw [e, StableHlo.Predicate.ofBool_eq_one_iff, decide_eq_true_iff] at h2
    rwa [show (Ideal.ofBits .f32 0x00000000#32 : EReal) = 0 by simp] at h2
  · have h2 : BitVec.ofBool (decide ((((extractStridedSlice Cert.Pre_routed.S22528x2 ![0, 1025] · Cert.Pre_routed.Facts.slices_S22528x1152_S22528x2_0_1025) a3) (ix2 r k) : EReal) < (Ideal.ofBits .f32 0x7F800000#32 : EReal))) = 1#1 := h1
    rw [e, StableHlo.Predicate.ofBool_eq_one_iff, decide_eq_true_iff] at h2
    exact ne_top_of_lt h2

end Cert.ExpertsPre
-- ==== Proof.ExpertsIdealBody.lean ====
/- How the body of `ExpertsIdeal`'s kernel runs at one tile of rows: it reads the tile's word of the third table and the
   seven blocks staged for the tile, and stores the tile's output block whole. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.ExpertsIdeal.Tile

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three tables as the body gets them: whole buffers. -/
abbrev tabLo : Memref sig .tc .smem S88 .i32 := Memref.whole main_arg0
abbrev tabHi : Memref sig .tc .smem S88 .i32 := Memref.whole main_arg1
abbrev tabUsed : Memref sig .tc .smem S88 .i32 := Memref.whole main_arg2

/-- A table's buffer held at half the full share: the body only reads it. -/
abbrev tabHeld (c : Dev nD) {S : Shape} {e : EltTy} (M : Memref sig .tc .smem S e)
    (f : Buf (Elt F) (M.view.loc (c : Thread nD τ))) : sProp 𝕄 :=
  M.view.loc (c : Thread nD τ) ↦{fullShare.right} f

/-- The word of the third table the body reads at a grid point. -/
def usedWord (c : Dev nD) (i : grid0.Coords) (l : Buf (Elt F) (tabUsed.view.loc (c : Thread nD τ))) : Elt F .i32 :=
  (tabUsed.access (Rect.unit (s := S88) (k0_off1 i) S1.size (k0_off1_inb i))).read (Elt F) l (Shape.Idx.first (numel1_S1.symm ▸ Nat.one_pos))

/-- A tile's rows, out of its packed block: the first 1024 columns. -/
def rowsOf (x : Vec F S256x1152 .f32) : Vec F S256x1024 .f32 :=
  fun j => x ((Rect.unit (s := S256x1152) ![0, 0] S256x1024.size inb_S256x1152_S256x1024_0_0).toLoadRect.idx j)

/-- The weight each row gives its first expert: column 1025. -/
def gateLo (x : Vec F S256x1152 .f32) : Vec F S256x1 .f32 :=
  fun j => x ((Rect.unit (s := S256x1152) ![0, 1025] S256x1.size inb_S256x1152_S256x1_0_1025).toLoadRect.idx j)

/-- The weight each row gives its second expert: column 1026. -/
def gateHi (x : Vec F S256x1152 .f32) : Vec F S256x1 .f32 :=
  fun j => x ((Rect.unit (s := S256x1152) ![0, 1026] S256x1.size inb_S256x1152_S256x1_0_1026).toLoadRect.idx j)

/-- What the body leaves in the output block of a used tile: the two experts' halves, one added to the other. -/
def busyBlk (x0 : Vec F S256x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) : Vec F S256x1024 .f32 :=
  k0_pay2 (k0_pay4 (rowsOf x0) (gateLo x0) x1 x2 x3) (gateHi x0) (k0_pay5 (rowsOf x0) x4) (k0_pay6 (rowsOf x0) x5)
    (k0_pay7 (rowsOf x0) x4) x6

/-- What the body leaves in the output block: the two experts' sum at a used tile, zeros at an unused one. -/
def outBlk (w : Elt F .i32) (x0 : Vec F S256x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) : Vec F S256x1024 .f32 :=
  if k0_cond2 w = 1#1 then busyBlk x0 x1 x2 x3 x4 x5 x6 else k0_pay1

/-- The tile's word either says the tile is used or that it is not. -/
theorem cond1_of_not (w : BitVec 32) (h : ¬ k0_cond2 w = 1#1) : k0_cond1 w = 1#1 := by
  have key : ∀ z : BitVec 1, ¬ Scalar.cmpi .ne (Scalar.extui z : BitVec 32) 0#32 = 1#1 →
      Scalar.cmpi .ne (Scalar.extui (Scalar.xori z 1#1) : BitVec 32) 0#32 = 1#1 := by decide
  exact key _ h

/-- A load of a whole three-axis block is the block. -/
theorem whole_idx_gate (j : S1x1024x512.Idx) :
    (Rect.unit (s := S1x1024x512) ![0, 0, 0] S1x1024x512.size inb_S1x1024x512_S1x1024x512_0_0_0).toLoadRect.idx j = j := by
  funext a; apply Fin.ext; fin_cases a <;> simp [LoadRect.idx, Rect.unit, Rect.toLoadRect]
  have := (j 0).isLt; simp at this; omega

/-- A load of a whole down-projection block is the block. -/
theorem whole_idx_down (j : S1x512x1024.Idx) :
    (Rect.unit (s := S1x512x1024) ![0, 0, 0] S1x512x1024.size inb_S1x512x1024_S1x512x1024_0_0_0).toLoadRect.idx j = j := by
  funext a; apply Fin.ext; fin_cases a <;> simp [LoadRect.idx, Rect.unit, Rect.toLoadRect]
  have := (j 0).isLt; simp at this; omega

/-- The rows a load of the packed block's first columns reads. -/
theorem load_rows (a : Memref sig .tc .vmem S256x1152 .f32) (h : a.IsWhole) (x : Vec F S256x1152 .f32) :
    View.readAt (Elt F) a.view (Rect.unit (s := S256x1152) ![0, 0] S256x1024.size inb_S256x1152_S256x1024_0_0).toLoadRect (h.unread x) = rowsOf x :=
  funext fun j => h.readAt_unread x _ j

/-- The column a load of the first weights reads. -/
theorem load_gateLo (a : Memref sig .tc .vmem S256x1152 .f32) (h : a.IsWhole) (x : Vec F S256x1152 .f32) :
    View.readAt (Elt F) a.view (Rect.unit (s := S256x1152) ![0, 1025] S256x1.size inb_S256x1152_S256x1_0_1025).toLoadRect (h.unread x) = gateLo x :=
  funext fun j => h.readAt_unread x _ j

/-- The column a load of the second weights reads. -/
theorem load_gateHi (a : Memref sig .tc .vmem S256x1152 .f32) (h : a.IsWhole) (x : Vec F S256x1152 .f32) :
    View.readAt (Elt F) a.view (Rect.unit (s := S256x1152) ![0, 1026] S256x1.size inb_S256x1152_S256x1_0_1026).toLoadRect (h.unread x) = gateHi x :=
  funext fun j => h.readAt_unread x _ j

/-- The block a load of a whole gate or up block reads. -/
theorem load_gate (a : Memref sig .tc .vmem S1x1024x512 .bf16) (h : a.IsWhole) (x : Vec F S1x1024x512 .bf16) :
    View.readAt (Elt F) a.view (Rect.unit (s := S1x1024x512) ![0, 0, 0] S1x1024x512.size inb_S1x1024x512_S1x1024x512_0_0_0).toLoadRect (h.unread x) = x :=
  funext fun j => (h.readAt_unread x _ j).trans (congrArg x (whole_idx_gate j))

/-- The block a load of a whole down block reads. -/
theorem load_down (a : Memref sig .tc .vmem S1x512x1024 .bf16) (h : a.IsWhole) (x : Vec F S1x512x1024 .bf16) :
    View.readAt (Elt F) a.view (Rect.unit (s := S1x512x1024) ![0, 0, 0] S1x512x1024.size inb_S1x512x1024_S1x512x1024_0_0_0).toLoadRect (h.unread x) = x :=
  funext fun j => (h.readAt_unread x _ j).trans (congrArg x (whole_idx_down j))

/-- What the two branches leave in the output block, read back. -/
theorem left_in_block (i : grid0.Coords) (a0 : Memref sig .tc .vmem S256x1152 .f32) (h0 : a0.IsWhole) (a1 : Memref sig .tc .vmem S1x1024x512 .bf16) (h1 : a1.IsWhole) (a2 : Memref sig .tc .vmem S1x1024x512 .bf16) (h2 : a2.IsWhole) (a3 : Memref sig .tc .vmem S1x512x1024 .bf16) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S256x1024 .f32)
    (f7 : a7.view.ty.Contents (Elt F)) (x0 : Vec F S256x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (w w' : Elt F .i32) (hw : w' = w) :
    a7.view.read (Elt F)
      (if hc : k0_cond2 w' = 1#1 then
        a7.view.writes (Elt F)
          (if hc : k0_cond1 w' = 1#1 then
            a7.view.writes (Elt F) f7 [⟨Rect.unit (s := S256x1024) ![0, 0] S256x1024.size inb_S256x1024_S256x1024_0_0, k0_pay1⟩]
          else f7)
          [⟨Rect.unit (s := S256x1024) ![0, 0] S256x1024.size inb_S256x1024_S256x1024_0_0,
            k0_pay2
              (k0_pay4
                (View.readAt (Elt F) a0.view (Rect.unit (s := S256x1152) ![0, 0] S256x1024.size inb_S256x1152_S256x1024_0_0).toLoadRect (h0.unread x0))
                (View.readAt (Elt F) a0.view (Rect.unit (s := S256x1152) ![0, 1025] S256x1.size inb_S256x1152_S256x1_0_1025).toLoadRect (h0.unread x0))
                (View.readAt (Elt F) a1.view (Rect.unit (s := S1x1024x512) ![0, 0, 0] S1x1024x512.size inb_S1x1024x512_S1x1024x512_0_0_0).toLoadRect (h1.unread x1))
                (View.readAt (Elt F) a2.view (Rect.unit (s := S1x1024x512) ![0, 0, 0] S1x1024x512.size inb_S1x1024x512_S1x1024x512_0_0_0).toLoadRect (h2.unread x2))
                (View.readAt (Elt F) a3.view (Rect.unit (s := S1x512x1024) ![0, 0, 0] S1x512x1024.size inb_S1x512x1024_S1x512x1024_0_0_0).toLoadRect (h3.unread x3)))
              (View.readAt (Elt F) a0.view (Rect.unit (s := S256x1152) ![0, 1026] S256x1.size inb_S256x1152_S256x1_0_1026).toLoadRect (h0.unread x0))
              (k0_pay5
                (View.readAt (Elt F) a0.view (Rect.unit (s := S256x1152) ![0, 0] S256x1024.size inb_S256x1152_S256x1024_0_0).toLoadRect (h0.unread x0))
                (View.readAt (Elt F) a4.view (Rect.unit (s := S1x1024x512) ![0, 0, 0] S1x1024x512.size inb_S1x1024x512_S1x1024x512_0_0_0).toLoadRect (h4.unread x4)))
              (k0_pay6
                (View.readAt (Elt F) a0.view (Rect.unit (s := S256x1152) ![0, 0] S256x1024.size inb_S256x1152_S256x1024_0_0).toLoadRect (h0.unread x0))
                (View.readAt (Elt F) a5.view (Rect.unit (s := S1x1024x512) ![0, 0, 0] S1x1024x512.size inb_S1x1024x512_S1x1024x512_0_0_0).toLoadRect (h5.unread x5)))
              (k0_pay7
                (View.readAt (Elt F) a0.view (Rect.unit (s := S256x1152) ![0, 0] S256x1024.size inb_S256x1152_S256x1024_0_0).toLoadRect (h0.unread x0))
                (View.readAt (Elt F) a4.view (Rect.unit (s := S1x1024x512) ![0, 0, 0] S1x1024x512.size inb_S1x1024x512_S1x1024x512_0_0_0).toLoadRect (h4.unread x4)))
              (View.readAt (Elt F) a6.view (Rect.unit (s := S1x512x1024) ![0, 0, 0] S1x512x1024.size inb_S1x512x1024_S1x512x1024_0_0_0).toLoadRect (h6.unread x6))⟩]
      else
        if hc : k0_cond1 w' = 1#1 then
          a7.view.writes (Elt F) f7 [⟨Rect.unit (s := S256x1024) ![0, 0] S256x1024.size inb_S256x1024_S256x1024_0_0, k0_pay1⟩]
        else f7) = outBlk w x0 x1 x2 x3 x4 x5 x6 := by
  subst hw
  unfold outBlk
  by_cases hc : k0_cond2 w' = 1#1
  · rw [dif_pos hc, if_pos hc, load_rows, load_gateLo, load_gateHi, load_gate, load_gate, load_gate, load_gate, load_down, load_down]
    exact View.read_writes_full a7.view _ _ _ _
  · rw [dif_neg hc, if_neg hc, dif_pos (cond1_of_not w' hc)]
    exact View.read_writes_full a7.view _ _ _ _

set_option maxHeartbeats 2000000 in
/-- The body at one tile. -/
theorem body_run (c : Dev nD) (i : grid0.Coords) (a0 : Memref sig .tc .vmem S256x1152 .f32) (h0 : a0.IsWhole) (a1 : Memref sig .tc .vmem S1x1024x512 .bf16) (h1 : a1.IsWhole) (a2 : Memref sig .tc .vmem S1x1024x512 .bf16) (h2 : a2.IsWhole) (a3 : Memref sig .tc .vmem S1x512x1024 .bf16) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S256x1024 .f32) (h7 : a7.IsWhole)
    (x0 : Vec F S256x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (l0 : Buf (Elt F) (tabLo.view.loc (c : Thread nD τ))) (l1 : Buf (Elt F) (tabHi.view.loc (c : Thread nD τ))) (l2 : Buf (Elt F) (tabUsed.view.loc (c : Thread nD τ)))
    (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ tabHeld c tabLo l0 ∗ tabHeld c tabHi l1 ∗ tabHeld c tabUsed l2
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (outBlk (usedWord c i l2) x0 x1 x2 x3 x4 x5 x6) ∗ tabHeld c tabLo l0 ∗ tabHeld c tabHi l1 ∗ tabHeld c tabUsed l2) -∗ K ⟨⟩))
      ⊢ wp frame (wpE (defs₀ (F := F)) Variants.none c none) E
          (cc0_moe_experts i tabLo (Memref.isWhole_whole _) tabHi (Memref.isWhole_whole _) tabUsed (Memref.isWhole_whole _) a0 h0 a1 h1 a2 h2 a3 h3 a4 h4 a5 h5 a6 h6 a7 h7) K := by
  simp only [cc0_moe_experts_eq_skeleton]; unfold cc0_moe_experts_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    exact left_in_block i a0 h0 a1 h1 a2 h2 a3 h3 a4 h4 a5 h5 a6 h6 a7 f7 x0 x1 x2 x3 x4 x5 x6 _ _ rfl
  isplitl [HT0]; · iexact HT0
  isplitl [HT1]; · iexact HT1
  iexact HT2

end Cert.ExpertsIdeal.Tile
-- ==== Proof.ExpertsIdealLaunch.lean ====
/- `ExpertsIdeal`'s launch, where three of the arrays are staged through two windows each: what every window's staging buffer
   holds around the body at each tile, the run of the whole program, and its frame. -/
module

public import proofs.«01_k».proof.Proof.ExpertsIdealBody

@[expose] public section

set_option maxRecDepth 16384

noncomputable section

namespace Cert.ExpertsIdeal.Tile

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold where the region starts: what they held at launch. -/
abbrev V (c : Dev nD) (b : Ref sig .tc) : Buf (Elt F) ((c : Thread nD τ).loc b) := m ((c : Thread nD τ).loc b)

set_option maxHeartbeats 800000 in
/-- The program is its one region. -/
theorem starts (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables as they stand in memory. -/
def tbl : pre0.Contents (Elt F) := fun j => V m (0 : Dev nD) (pre0.ref j)

/-- There is one device, so each core's tables are those. -/
theorem V_pre (c : Dev nD) (j : Fin 3) : V m c (pre0.ref j) = tbl m j := by
  obtain rfl : c = 0 := Subsingleton.elim _ _
  rfl

/-- Every block the tables choose lies in its array. -/
abbrev Ok : Prop := ok0 (F := F) (tbl m)

/-- The tables, as contents the pipeline admits. -/
abbrev adm (hO : Ok m) : (pcfg0 (F := F)).Adm := ⟨tbl m, hO⟩

/-- The pipeline at those tables. -/
abbrev pipe (hO : Ok m) : Pipeline.Cfg sig Λ₀ := cfg0 (adm m hO)

/-- The halves of the tables the body is lent, one by one. -/
theorem lent_tables (c : Dev nD) : (Pipeline.ΦT pre0 (tbl m) c : sProp 𝕄)
    = iprop(tabHeld c tabLo (tbl m 0) ∗ tabHeld c tabHi (tbl m 1) ∗ tabHeld c tabUsed (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The block of a window's array staged at a tile. -/
def iblk (hO : Ok m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (V m c (Pipeline.arrRef spec0 w))

/-- What the body leaves in the output's staging buffer at a tile. -/
def made (hO : Ok m) (c : Dev nD) (t : Fin (pipe m hO).N) : Vec F S256x1024 .f32 :=
  outBlk (usedWord c (grid0.coords t) (tbl m 2)) (iblk m hO c 0 t) (iblk m hO c 1 t) (iblk m hO c 2 t) (iblk m hO c 3 t) (iblk m hO c 4 t) (iblk m hO c 5 t) (iblk m hO c 6 t)

/-- What the pipeline's windows hold on a core: the inputs their blocks, the output what the body makes. Windows on
    one array split its share. -/
def dats (hO : Ok m) (_ : Fin 1) (c : Dev nD) : Dat τ (Elt F) Unit ℕ (UR sig nD τ) ℕ (pipe m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => made m hO c t
  Φ _ := iprop(Pipeline.ΦA spec0 c ∗ Pipeline.ΦT pre0 (tbl m) c)
  q w := Pipeline.shareOf spec0 w
  owed _ := 0

/-- Each window's array starts at its launch contents. -/
theorem A_eq (hO : Ok m) (c : Dev nD) (w : Fin (pipe m hO).W) : (dats m hO 0 c).A w = V m c (Pipeline.arrRef spec0 w) := by
  dsimp only [dats]

theorem after_0 (hO : Ok m) (c : Dev nD) (t : Fin (pipe m hO).N) : (dats m hO 0 c).after 0 t = iblk m hO c 0 t := by dsimp only [dats]; try rfl
theorem after_1 (hO : Ok m) (c : Dev nD) (t : Fin (pipe m hO).N) : (dats m hO 0 c).after 1 t = iblk m hO c 1 t := by dsimp only [dats]; try rfl
theorem after_2 (hO : Ok m) (c : Dev nD) (t : Fin (pipe m hO).N) : (dats m hO 0 c).after 2 t = iblk m hO c 2 t := by dsimp only [dats]; try rfl
theorem after_3 (hO : Ok m) (c : Dev nD) (t : Fin (pipe m hO).N) : (dats m hO 0 c).after 3 t = iblk m hO c 3 t := by dsimp only [dats]; try rfl
theorem after_4 (hO : Ok m) (c : Dev nD) (t : Fin (pipe m hO).N) : (dats m hO 0 c).after 4 t = iblk m hO c 4 t := by dsimp only [dats]; try rfl
theorem after_5 (hO : Ok m) (c : Dev nD) (t : Fin (pipe m hO).N) : (dats m hO 0 c).after 5 t = iblk m hO c 5 t := by dsimp only [dats]; try rfl
theorem after_6 (hO : Ok m) (c : Dev nD) (t : Fin (pipe m hO).N) : (dats m hO 0 c).after 6 t = iblk m hO c 6 t := by dsimp only [dats]; try rfl
theorem after_7 (hO : Ok m) (c : Dev nD) (t : Fin (pipe m hO).N) : (dats m hO 0 c).after 7 t = made m hO c t := by dsimp only [dats]; try rfl

/-- The body finds window 0's block staged. -/
theorem found_0 (hO : Ok m) (c : Dev nD) (t : Fin (pipe m hO).N) (d) : (dats m hO 0 c).before 0 t d = iblk m hO c 0 t :=
  ((dats m hO 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The body finds window 1's block staged. -/
theorem found_1 (hO : Ok m) (c : Dev nD) (t : Fin (pipe m hO).N) (d) : (dats m hO 0 c).before 1 t d = iblk m hO c 1 t :=
  ((dats m hO 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The body finds window 2's block staged. -/
theorem found_2 (hO : Ok m) (c : Dev nD) (t : Fin (pipe m hO).N) (d) : (dats m hO 0 c).before 2 t d = iblk m hO c 2 t :=
  ((dats m hO 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- The body finds window 3's block staged. -/
theorem found_3 (hO : Ok m) (c : Dev nD) (t : Fin (pipe m hO).N) (d) : (dats m hO 0 c).before 3 t d = iblk m hO c 3 t :=
  ((dats m hO 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- The body finds window 4's block staged. -/
theorem found_4 (hO : Ok m) (c : Dev nD) (t : Fin (pipe m hO).N) (d) : (dats m hO 0 c).before 4 t d = iblk m hO c 4 t :=
  ((dats m hO 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-- The body finds window 5's block staged. -/
theorem found_5 (hO : Ok m) (c : Dev nD) (t : Fin (pipe m hO).N) (d) : (dats m hO 0 c).before 5 t d = iblk m hO c 5 t :=
  ((dats m hO 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)

/-- The body finds window 6's block staged. -/
theorem found_6 (hO : Ok m) (c : Dev nD) (t : Fin (pipe m hO).N) (d) : (dats m hO 0 c).before 6 t d = iblk m hO c 6 t :=
  ((dats m hO 0 c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

abbrev ms_0 (hO : Ok m) (t : Fin (pipe m hO).N) : Memref sig .tc .vmem S256x1152 .f32 := spec0_0.stage ((pipe m hO).slots t 0)
abbrev ms_1 (hO : Ok m) (t : Fin (pipe m hO).N) : Memref sig .tc .vmem S1x1024x512 .bf16 := spec0_1.stage ((pipe m hO).slots t 1)
abbrev ms_2 (hO : Ok m) (t : Fin (pipe m hO).N) : Memref sig .tc .vmem S1x1024x512 .bf16 := spec0_2.stage ((pipe m hO).slots t 2)
abbrev ms_3 (hO : Ok m) (t : Fin (pipe m hO).N) : Memref sig .tc .vmem S1x512x1024 .bf16 := spec0_3.stage ((pipe m hO).slots t 3)
abbrev ms_4 (hO : Ok m) (t : Fin (pipe m hO).N) : Memref sig .tc .vmem S1x1024x512 .bf16 := spec0_4.stage ((pipe m hO).slots t 4)
abbrev ms_5 (hO : Ok m) (t : Fin (pipe m hO).N) : Memref sig .tc .vmem S1x1024x512 .bf16 := spec0_5.stage ((pipe m hO).slots t 5)
abbrev ms_6 (hO : Ok m) (t : Fin (pipe m hO).N) : Memref sig .tc .vmem S1x512x1024 .bf16 := spec0_6.stage ((pipe m hO).slots t 6)
abbrev ms_7 (hO : Ok m) (t : Fin (pipe m hO).N) : Memref sig .tc .vmem S256x1024 .f32 := spec0_7.stage ((pipe m hO).slots t 7)

/-- The kernel body as the pipeline calls it at a tile. -/
abbrev bodyAt (hO : Ok m) (t : Fin (pipe m hO).N) : Prog (TpuEff nD τ sig (Elt F) Λ₀ .tc) PUnit :=
  cc0_moe_experts (grid0.coords t) tabLo (Memref.isWhole_whole _) tabHi (Memref.isWhole_whole _) tabUsed (Memref.isWhole_whole _) (ms_0 m hO t) (hstage0_0 (((pipe m hO).slots t 0).cast nbuf0_0)) (ms_1 m hO t) (hstage0_1 (((pipe m hO).slots t 1).cast nbuf0_1)) (ms_2 m hO t) (hstage0_2 (((pipe m hO).slots t 2).cast nbuf0_2)) (ms_3 m hO t) (hstage0_3 (((pipe m hO).slots t 3).cast nbuf0_3)) (ms_4 m hO t) (hstage0_4 (((pipe m hO).slots t 4).cast nbuf0_4)) (ms_5 m hO t) (hstage0_5 (((pipe m hO).slots t 5).cast nbuf0_5)) (ms_6 m hO t) (hstage0_6 (((pipe m hO).slots t 6).cast nbuf0_6)) (ms_7 m hO t) (hstage0_7 (((pipe m hO).slots t 7).cast nbuf0_7))

/-- What the body is called with, window by window. -/
def bodyPre (hO : Ok m) (c : Dev nD) (t : Fin (pipe m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d)) ∗ (∃ d, owns (c : Thread nD τ) (ms_1 m hO t) fullShare ((dats m hO 0 c).before 1 t d)) ∗ (∃ d, owns (c : Thread nD τ) (ms_2 m hO t) fullShare ((dats m hO 0 c).before 2 t d)) ∗ (∃ d, owns (c : Thread nD τ) (ms_3 m hO t) fullShare ((dats m hO 0 c).before 3 t d)) ∗ (∃ d, owns (c : Thread nD τ) (ms_4 m hO t) fullShare ((dats m hO 0 c).before 4 t d)) ∗ (∃ d, owns (c : Thread nD τ) (ms_5 m hO t) fullShare ((dats m hO 0 c).before 5 t d)) ∗ (∃ d, owns (c : Thread nD τ) (ms_6 m hO t) fullShare ((dats m hO 0 c).before 6 t d)) ∗ (∃ d, owns (c : Thread nD τ) (ms_7 m hO t) fullShare ((dats m hO 0 c).before 7 t d)))

/-- What the body returns, window by window. -/
def bodyPost (hO : Ok m) (c : Dev nD) (t : Fin (pipe m hO).N) : sProp 𝕄 :=
  iprop((dats m hO 0 c).Φ t.succ ∗ (dats m hO 0 c).owesAt () t.succ
    ∗ owns (c : Thread nD τ) (ms_0 m hO t) fullShare ((dats m hO 0 c).after 0 t) ∗ owns (c : Thread nD τ) (ms_1 m hO t) fullShare ((dats m hO 0 c).after 1 t) ∗ owns (c : Thread nD τ) (ms_2 m hO t) fullShare ((dats m hO 0 c).after 2 t) ∗ owns (c : Thread nD τ) (ms_3 m hO t) fullShare ((dats m hO 0 c).after 3 t) ∗ owns (c : Thread nD τ) (ms_4 m hO t) fullShare ((dats m hO 0 c).after 4 t) ∗ owns (c : Thread nD τ) (ms_5 m hO t) fullShare ((dats m hO 0 c).after 5 t) ∗ owns (c : Thread nD τ) (ms_6 m hO t) fullShare ((dats m hO 0 c).after 6 t) ∗ owns (c : Thread nD τ) (ms_7 m hO t) fullShare ((dats m hO 0 c).after 7 t))

set_option maxHeartbeats 800000 in
/-- The body at a tile of the launch. -/
theorem tile_run (hO : Ok m) (c : Dev nD) (t : Fin (pipe m hO).N) :
    bodyPre m hO c t ⊢ wp frame (wpE (defs₀ (F := F)) Variants.none c none) Set.univ (bodyAt m hO t) (fun _ => bodyPost m hO c t) := by
  unfold bodyPre bodyPost bodyAt
  simp only [found_0, found_1, found_2, found_3, found_4, found_5, found_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  rw [show (dats m hO 0 c).Φ t.castSucc = iprop(Pipeline.ΦA spec0 c ∗ Pipeline.ΦT pre0 (tbl m) c) from rfl, lent_tables]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold made
  iexact H7

/-- The output block is stored at every tile. -/
theorem never_idle (hO : Ok m) (t : Fin (pipe m hO).N) : (pipe m hO).idle 7 ((pipe m hO).grid.coords t) = false := by
  show (!(k0_cond1 ((tbl m).atD 2 (k0_off1 (grid0.coords t))) == 1#1) && !(k0_cond2 ((tbl m).atD 2 (k0_off1 (grid0.coords t))) == 1#1)) = false
  generalize (tbl m).atD 2 (k0_off1 (grid0.coords t)) = w
  by_cases h : k0_cond2 w = 1#1
  · rw [h]; simp
  · rw [cond1_of_not w h]; simp

/-- The body table's row at a tile is the body. -/
theorem defs₀_row (hO : Ok m) (t : Fin (pipe m hO).N) :
    defs₀ (F := F) .tc (pipe m hO).body ((pipe m hO).bodyArgs t ((pipe m hO).slots t)) = bodyAt m hO t := by
  unfold defs₀; rw [Defs.onTc_tc]

/-- The body meets what the launch asks of it. -/
theorem body_obligation (hO : Ok m) (c : Dev nD) : BodyObligation (dats (F := F) m hO 0 c) (defs₀ (F := F)) Variants.none () Set.univ := fun t => by
  rw [bigSep_W0, bigSep_W0, defs₀_row m hO]
  refine triple_restated (tile_run m hO c t) rfl .rfl fun _ => ?_
  unfold bodyPost
  rw [never_idle]

set_option backward.isDefEq.respectTransparency.types false in
/-- The run of the program: each array ends as the windows leave it, everything else as it was, every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := starts m Variants.none) (hA := A_eq m hO) (hpf := V_pre m) (hΦ := fun _ _ => rfl)

/-- What a final state of the run holds: the arguments unchanged and the result as the output window leaves it. -/
theorem run_reads (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v0) = (dats m hO 0 c).arrAt 7 (pipe m hO).N)
      ∧ r.2.sem = fun _ => 0) :=
  (θ_run defs _ _).mono (fun _ h => ⟨fun c =>
    ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans ((dats m hO 0 c).arrAt_in 0 rfl _),
      ((h.1 c).1 1).trans ((dats m hO 0 c).arrAt_in 1 rfl _),
      ((h.1 c).1 2).trans ((dats m hO 0 c).arrAt_in 2 rfl _),
      ((h.1 c).1 3).trans ((dats m hO 0 c).arrAt_in 3 rfl _),
      (h.1 c).1 7⟩, h.2⟩) (run_main m ρ hO)

/-- The frame: the arguments unchanged, the counters at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1, (h.1 c).2.1, (h.1 c).2.2.1, (h.1 c).2.2.2.1, (h.1 c).2.2.2.2.1,
    (h.1 c).2.2.2.2.2.1, (h.1 c).2.2.2.2.2.2.1⟩, h.2⟩) (run_reads m ρ hO)

end Cert.ExpertsIdeal.Tile
-- ==== Proof.ExpertsIdealOk.lean ====
/- Tables that name experts 0 to 15 choose blocks inside the weight arrays of `ExpertsIdeal`, and what the words read from the
   tables are. -/
module

public import proofs.«01_k».proof.Proof.ExpertsIdealLaunch
public import proofs.«01_k».proof.Proof.ExpertsPre
public import Idealize.ShloMosaic.Lib.PairWhole
public import Idealize.ShloMosaic.Lib.Pointwise

@[expose] public section

set_option maxRecDepth 16384

noncomputable section

namespace Cert.ExpertsIdeal.Tile

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A grid point's tile as an index of a table. -/
def tileIx (i : grid0.Coords) : S88.Idx := ix1 (n0 := 88) ⟨(i 0).val, (i 0).isLt⟩

/-- The index the kernel and the block maps read a table at is the tile's own. -/
theorem off1_ix (i : grid0.Coords) : (Rect.unit (s := S88) (k0_off1 i) S1.size (k0_off1_inb i)).emb (Shape.Idx.first (numel1_S1.symm ▸ Nat.one_pos)) = tileIx i := by
  have hi : (i 0).val < 88 := (i 0).isLt
  funext a
  apply Fin.ext
  fin_cases a
  show (BitVec.ofNat 32 (i 0).val).toNat + 1 * _ = (i 0).val
  have h0 : ((Shape.Idx.first (numel1_S1.symm ▸ Nat.one_pos) : S1.Idx) 0).val < 1 := ((Shape.Idx.first (numel1_S1.symm ▸ Nat.one_pos) : S1.Idx) 0).isLt
  have h1 : ((Shape.Idx.first (numel1_S1.symm ▸ Nat.one_pos) : S1.Idx) 0).val = 0 := by omega
  rw [BitVec.toNat_ofNat, Nat.mod_eq_of_lt (by omega)]
  show (i 0).val + 1 * ((Shape.Idx.first (numel1_S1.symm ▸ Nat.one_pos) : S1.Idx) 0).val = (i 0).val
  omega

/-- The word the body reads is the third table's at the tile. -/
theorem usedWord_eq (c : Dev nD) (i : grid0.Coords) (l : Buf (Elt F) (tabUsed.view.loc (c : Thread nD τ))) : usedWord c i l = (l : S88.Idx → BitVec 32) (tileIx i) :=
  congrArg (l : S88.Idx → BitVec 32) (off1_ix i)

/-- The block maps of the weight arrays choose the block the tile's table word names. -/
theorem map_1 (pf : pre0.Contents (Elt F)) (i : grid0.Coords) : cc0_transform_1 k0_off1_inb numel1_S1 pf i = ![((pf 0 : S88.Idx → BitVec 32) (tileIx i)).toNat, 0, 0] := by
  rw [← off1_ix i]
  rfl

theorem map_2 (pf : pre0.Contents (Elt F)) (i : grid0.Coords) : cc0_transform_2 k0_off1_inb numel1_S1 pf i = ![((pf 0 : S88.Idx → BitVec 32) (tileIx i)).toNat, 0, 0] := by
  rw [← off1_ix i]
  rfl

theorem map_3 (pf : pre0.Contents (Elt F)) (i : grid0.Coords) : cc0_transform_3 k0_off1_inb numel1_S1 pf i = ![((pf 0 : S88.Idx → BitVec 32) (tileIx i)).toNat, 0, 0] := by
  rw [← off1_ix i]
  rfl

theorem map_4 (pf : pre0.Contents (Elt F)) (i : grid0.Coords) : cc0_transform_4 k0_off1_inb numel1_S1 pf i = ![((pf 1 : S88.Idx → BitVec 32) (tileIx i)).toNat, 0, 0] := by
  rw [← off1_ix i]
  rfl

theorem map_5 (pf : pre0.Contents (Elt F)) (i : grid0.Coords) : cc0_transform_5 k0_off1_inb numel1_S1 pf i = ![((pf 1 : S88.Idx → BitVec 32) (tileIx i)).toNat, 0, 0] := by
  rw [← off1_ix i]
  rfl

theorem map_6 (pf : pre0.Contents (Elt F)) (i : grid0.Coords) : cc0_transform_6 k0_off1_inb numel1_S1 pf i = ![((pf 1 : S88.Idx → BitVec 32) (tileIx i)).toNat, 0, 0] := by
  rw [← off1_ix i]
  rfl

set_option maxHeartbeats 800000 in
/-- Tables of expert numbers keep every chosen block inside its array. -/
theorem ok_of_small (hlo : ∀ j, ((tbl m 0 : S88.Idx → BitVec 32) j).toNat < 16) (hhi : ∀ j, ((tbl m 1 : S88.Idx → BitVec 32) j).toNat < 16) : Ok m := by
  unfold Ok ok0
  refine ⟨?_, ?_, ?_, ?_, ?_, ?_⟩
  · intro i
    refine ⟨fun a => ?_, .inr ?_⟩
    · rw [map_1]
      have := hlo (tileIx i)
      fin_cases a
      · show (((tbl m 0 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_1 k0_off1_inb numel1_S1 (tbl m) i 1 * _ = 0
      rw [map_1]
      exact Nat.zero_mul _
  · intro i
    refine ⟨fun a => ?_, .inr ?_⟩
    · rw [map_2]
      have := hlo (tileIx i)
      fin_cases a
      · show (((tbl m 0 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_2 k0_off1_inb numel1_S1 (tbl m) i 1 * _ = 0
      rw [map_2]
      exact Nat.zero_mul _
  · intro i
    refine ⟨fun a => ?_, .inr ?_⟩
    · rw [map_3]
      have := hlo (tileIx i)
      fin_cases a
      · show (((tbl m 0 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_3 k0_off1_inb numel1_S1 (tbl m) i 1 * _ = 0
      rw [map_3]
      exact Nat.zero_mul _
  · intro i
    refine ⟨fun a => ?_, .inr ?_⟩
    · rw [map_4]
      have := hhi (tileIx i)
      fin_cases a
      · show (((tbl m 1 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_4 k0_off1_inb numel1_S1 (tbl m) i 1 * _ = 0
      rw [map_4]
      exact Nat.zero_mul _
  · intro i
    refine ⟨fun a => ?_, .inr ?_⟩
    · rw [map_5]
      have := hhi (tileIx i)
      fin_cases a
      · show (((tbl m 1 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_5 k0_off1_inb numel1_S1 (tbl m) i 1 * _ = 0
      rw [map_5]
      exact Nat.zero_mul _
  · intro i
    refine ⟨fun a => ?_, .inr ?_⟩
    · rw [map_6]
      have := hhi (tileIx i)
      fin_cases a
      · show (((tbl m 1 : S88.Idx → BitVec 32) (tileIx i)).toNat + 1) * 1 ≤ 16
        omega
      · show (0 + 1) * _ ≤ _
        decide
      · show (0 + 1) * _ ≤ _
        decide
    · refine .inr ⟨by decide, rfl, ?_, rfl⟩
      show cc0_transform_6 k0_off1_inb numel1_S1 (tbl m) i 1 * _ = 0
      rw [map_6]
      exact Nat.zero_mul _

end Cert.ExpertsIdeal.Tile
-- ==== Proof.ExpertsSum.lean ====
/- The routed experts' sum of one row, as arithmetic on extended reals: what one expert answers, how a weight
   moves through its last product, and that a sum over all experts of a row's two weights leaves two of them. -/
module

public import Idealize.ShloMosaic.Lib.Pointwise
public import Idealize.ShloMosaic.PureOps.Ideal.Laws

@[expose] public section

noncomputable section

namespace Cert.ExpertsSum

open Idealize.ShloMosaic

/-- A row's product with one column of an expert's first-layer weights. -/
def score (x : Fin 1024 → EReal) (W : Fin 1024 → Fin 512 → EReal) (h : Fin 512) : EReal := ∑ k, x k * W k h

/-- The gate's curve: `a` over one plus the exponential of minus `a`. -/
def curve (a : EReal) : EReal := Ideal.div a (1 + Ideal.exp (-a))

/-- One hidden unit of an expert: the gate's curve times the linear half. -/
def hidden (x : Fin 1024 → EReal) (Wg Wu : Fin 1024 → Fin 512 → EReal) (h : Fin 512) : EReal :=
  curve (score x Wg h) * score x Wu h

/-- One expert's answer to a row, at one of its 1024 columns. -/
def answer (x : Fin 1024 → EReal) (Wg Wu : Fin 1024 → Fin 512 → EReal) (Wd : Fin 512 → Fin 1024 → EReal) (c : Fin 1024) : EReal :=
  ∑ h, hidden x Wg Wu h * Wd h c

theorem exp_nonneg (a : EReal) : 0 ≤ Ideal.exp a := by
  induction a using EReal.rec with
  | bot => exact le_rfl
  | top => exact le_top
  | coe r => rw [Ideal.exp_coe]; exact_mod_cast (Real.exp_pos r).le

theorem one_add_exp_ne_zero (a : EReal) : 1 + Ideal.exp a ≠ 0 := by
  have h1 : (0 : EReal) < 1 := by exact_mod_cast (one_pos : (0 : ℝ) < 1)
  exact (lt_of_lt_of_le h1 (le_add_of_nonneg_right (exp_nonneg a))).ne'

/-- The curve written as a product with a reciprocal. -/
theorem mul_recip (a : EReal) : a * Ideal.div 1 (1 + Ideal.exp (-a)) = curve a := by
  unfold curve Ideal.div
  rw [if_neg (one_add_exp_ne_zero _), if_neg (one_add_exp_ne_zero _), one_mul]

/-- A weight that is not negative and not infinite moves out of a finite sum. -/
theorem weight_sum {n : ℕ} (g : EReal) (h0 : 0 ≤ g) (ht : g ≠ ⊤) (f : Fin n → EReal) : ∑ h, g * f h = g * ∑ h, f h := by
  suffices key : ∀ s : Finset (Fin n), ∑ h ∈ s, g * f h = g * ∑ h ∈ s, f h from key _
  intro s
  induction s using Finset.induction_on with
  | empty => simp
  | insert a s ha ih =>
    rw [Finset.sum_insert ha, Finset.sum_insert ha, ih, EReal.left_distrib_of_nonneg_of_ne_top h0 ht]

/-- Weighting every hidden unit weights the answer. -/
theorem weighted_answer (g : EReal) (h0 : 0 ≤ g) (ht : g ≠ ⊤) (x : Fin 1024 → EReal) (Wg Wu : Fin 1024 → Fin 512 → EReal)
    (Wd : Fin 512 → Fin 1024 → EReal) (c : Fin 1024) :
    ∑ h, hidden x Wg Wu h * g * Wd h c = g * answer x Wg Wu Wd c := by
  rw [answer, ← weight_sum g h0 ht]
  refine Finset.sum_congr rfl fun h _ => ?_
  rw [mul_comm (hidden x Wg Wu h) g, mul_assoc]

/-- The weight a row gives expert `e` when its two experts are `lo` and `hi`. -/
def share (a b : EReal) (lo hi e : Fin 16) : EReal := a * (if lo = e then 1 else 0) + b * (if hi = e then 1 else 0)

/-- Over all experts, two weights leave two answers. -/
theorem sum_share (a b : EReal) (ha : 0 ≤ a) (hb : 0 ≤ b) (lo hi : Fin 16) (f : Fin 16 → EReal) :
    ∑ e, share a b lo hi e * f e = a * f lo + b * f hi := by
  have step : ∀ e, share a b lo hi e * f e = (if lo = e then a * f e else 0) + (if hi = e then b * f e else 0) := by
    intro e
    unfold share
    rw [EReal.right_distrib_of_nonneg]
    · congr 1 <;> split_ifs <;> simp
    · split_ifs <;> simp [ha]
    · split_ifs <;> simp [hb]
  simp only [step, Finset.sum_add_distrib, Finset.sum_ite_eq, Finset.mem_univ, if_true]

end Cert.ExpertsSum

end
-- ==== Proof.ExpertsTile.lean ====
/- One tile of the experts' kernel, entry by entry: zero in an unused tile, else the row's two weighted answers. -/
module

public import proofs.«01_k».proof.Proof.ExpertsIdealOk
public import proofs.«01_k».proof.Proof.ExpertsSum
public import Idealize.ShloMosaic.Lib.Pointwise

@[expose] public section

noncomputable section

namespace Cert.ExpertsIdeal.Tile

open Cert.ExpertsIdeal.Gen Cert.ExpertsSum
open Idealize.ShloMosaic Idealize.SL.Sem

/-- The word says the tile is used when it is positive. -/
theorem cond2_iff (w : BitVec 32) : k0_cond2 w = 1#1 ↔ IntOp.cmpi .sgt w 0#32 = 1#1 := by
  have key : ∀ z : BitVec 1, Scalar.cmpi .ne (Scalar.extui z : BitVec 32) 0#32 = 1#1 ↔ z = 1#1 := by decide
  exact key _

variable (x0 : Vec Ideal S256x1152 .f32) (x1 x2 x4 x5 : Vec Ideal S1x1024x512 .bf16) (x3 x6 : Vec Ideal S1x512x1024 .bf16)

/-- A tile's row, its first 1024 columns. -/
def tileRow (r : Fin 256) (k : Fin 1024) : EReal := x0 (ix2 r ⟨k.val, by omega⟩)

/-- The matrix a weight block holds. -/
def blkMat {a b : ℕ} (w : Shape.Idx ⟨_, ![1, a, b]⟩ → EReal) (k : Fin a) (h : Fin b) : EReal := w (ix3 0 k h)

theorem rowsOf_entry (r : Fin 256) (k : Fin 1024) : rowsOf x0 (ix2 r k) = tileRow x0 r k := by
  unfold rowsOf tileRow
  congr 1
  idx_ext

theorem gateLo_entry (r : Fin 256) : gateLo x0 (ix2 r 0) = x0 (ix2 r 1025) := by
  unfold gateLo
  congr 1
  idx_ext

theorem gateHi_entry (r : Fin 256) : gateHi x0 (ix2 r 0) = x0 (ix2 r 1026) := by
  unfold gateHi
  congr 1
  idx_ext

set_option maxHeartbeats 1600000 in
/-- A used tile's entry: the two weighted answers. -/
theorem busy_entry (r : Fin 256) (c : Fin 1024) (hg : 0 ≤ x0 (ix2 r 1025) ∧ x0 (ix2 r 1025) ≠ (⊤ : EReal))
    (hg' : 0 ≤ x0 (ix2 r 1026) ∧ x0 (ix2 r 1026) ≠ (⊤ : EReal)) :
    busyBlk x0 x1 x2 x3 x4 x5 x6 (ix2 r c)
      = x0 (ix2 r 1025) * answer (tileRow x0 r) (blkMat x1) (blkMat x2) (blkMat x3) c
        + x0 (ix2 r 1026) * answer (tileRow x0 r) (blkMat x4) (blkMat x5) (blkMat x6) c := by
  rw [← weighted_answer _ hg.1 hg.2, ← weighted_answer _ hg'.1 hg'.2]
  unfold busyBlk
  pointwise [k0_pay2, k0_pay4, k0_pay5, k0_pay6, k0_pay7, k0_pay3]
  simp only [rowsOf_entry, gateLo_entry, gateHi_entry, zero_sub]
  rfl

/-- A tile's entry. -/
theorem out_entry (w : BitVec 32) (r : Fin 256) (c : Fin 1024) (hg : 0 ≤ x0 (ix2 r 1025) ∧ x0 (ix2 r 1025) ≠ (⊤ : EReal))
    (hg' : 0 ≤ x0 (ix2 r 1026) ∧ x0 (ix2 r 1026) ≠ (⊤ : EReal)) :
    outBlk w x0 x1 x2 x3 x4 x5 x6 (ix2 r c)
      = if IntOp.cmpi .sgt w 0#32 = 1#1 then x0 (ix2 r 1025) * answer (tileRow x0 r) (blkMat x1) (blkMat x2) (blkMat x3) c
        + x0 (ix2 r 1026) * answer (tileRow x0 r) (blkMat x4) (blkMat x5) (blkMat x6) c else (0 : EReal) := by
  unfold outBlk
  by_cases h : k0_cond2 w = 1#1
  · rw [if_pos h, if_pos ((cond2_iff w).mp h)]
    exact busy_entry x0 x1 x2 x4 x5 x3 x6 r c hg hg'
  · rw [if_neg h, if_neg (fun h' => h ((cond2_iff w).mpr h'))]
    pointwise [k0_pay1]

end Cert.ExpertsIdeal.Tile

end
-- ==== Proof.ExpertsRefEntry.lean ====
/- The reference's result, entry by entry, on tables that name experts 0 to 15: zero in an unused tile, else the
   row's two weighted answers. -/
module

public import proofs.«01_k».proof.Proof.Gen.ExpertsRefIdeal.Read
public import proofs.«01_k».proof.Proof.ExpertsSum
public import Idealize.ShloMosaic.Lib.Pointwise

@[expose] public section

noncomputable section

namespace Cert.ExpertsRefIdeal.Entry

open Idealize.ShloMosaic Idealize.SL.Sem
open Cert.ExpertsRefIdeal Cert.ExpertsRefIdeal.Gen Cert.ExpertsRefIdeal.Read Cert.ExpertsSum

variable (x0 x1 x2 : (⟨S88, .i32⟩ : BufTy).Contents (Elt Ideal)) (x3 : (⟨S22528x1152, .f32⟩ : BufTy).Contents (Elt Ideal))
  (x4 x5 : (⟨S16x1024x512, .bf16⟩ : BufTy).Contents (Elt Ideal)) (x6 : (⟨S16x512x1024, .bf16⟩ : BufTy).Contents (Elt Ideal))

/-- Row `r` of the packed rows, its first 1024 columns. -/
def row (r : Fin 22528) (k : Fin 1024) : EReal := x3 (ix2 r ⟨k.val, by omega⟩)

/-- Expert `e`'s matrix in a weight array. -/
def mat {a b : ℕ} (w : Shape.Idx ⟨_, ![16, a, b]⟩ → EReal) (e : Fin 16) (k : Fin a) (h : Fin b) : EReal := w (ix3 e k h)

/-- The tile a row lies in. -/
def tile (r : Fin 22528) : Fin 88 := ⟨r.val / 256, by omega⟩

theorem onehot (a : BitVec 32) (e : Fin 16) (ha : a.toNat < 16) :
    (FloatOps.uitofp .f32 (IntOp.cmpi .eq a (BitVec.ofNat 32 e.val)) : Ideal .f32) = if (⟨a.toNat, ha⟩ : Fin 16) = e then 1 else 0 := by
  have he := e.isLt
  have hiff : a = BitVec.ofNat 32 e.val ↔ (⟨a.toNat, ha⟩ : Fin 16) = e := by
    rw [Fin.ext_iff, ← BitVec.toNat_inj, BitVec.toNat_ofNat, Nat.mod_eq_of_lt (by omega)]
  show (((IntOp.cmpi .eq a (BitVec.ofNat 32 e.val)).toNat : ℝ) : EReal) = _
  by_cases h : a = BitVec.ofNat 32 e.val
  · rw [if_pos (hiff.mp h), IntOp.cmpi_eq.mpr h]
    simp
  · have hz : IntOp.cmpi .eq a (BitVec.ofNat 32 e.val) = 0#1 := by
      rcases BitVec.eq_zero_or_eq_one (IntOp.cmpi .eq a (BitVec.ofNat 32 e.val)) with hc | hc
      · exact hc
      · exact absurd (IntOp.cmpi_eq.mp hc) h
    rw [if_neg (fun h' => h (hiff.mpr h')), hz]
    simp

set_option maxHeartbeats 1600000 in
/-- The weight the reference gives expert `e` in row `r`. -/
theorem weight_of_expert (r : Fin 22528) (e : Fin 16) (h0 : ∀ j, (x0 j).toNat < 16) (h1 : ∀ j, (x1 j).toNat < 16) :
    val_main_v26 (F := Ideal) x0 x1 x2 x3 (ix2 r e)
      = share (Scalar.select (IntOp.cmpi .sgt (x2 (ix1 (tile r))) 0#32) (x3 (ix2 r 1025)) 0)
          (Scalar.select (IntOp.cmpi .sgt (x2 (ix1 (tile r))) 0#32) (x3 (ix2 r 1026)) 0)
          ⟨(x0 (ix1 (tile r))).toNat, h0 _⟩ ⟨(x1 (ix1 (tile r))).toNat, h1 _⟩ e := by
  have z : id (constant (F := Ideal) S_ .f32 0#32) ix0 = (0 : EReal) := by pointwise [id_eq]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_cst, val_main_call0_v0, val_main_call0_v1, val_main_call0_v2, val_main_call1_v0, val_main_call1_v1, val_main_call1_v2, val_main_call1_v3, val_main_call1_v4, val_main_call2_v0, val_main_call2_v1, val_main_call2_v2, val_main_call2_v3, val_main_call2_v4]
  rw [z]
  unfold share
  congr 1
  · congr 1
    exact onehot _ e (h0 _)
  · congr 1
    exact onehot _ e (h1 _)

/-- What the reference adds for expert `e`. -/
def added (r : Fin 22528) (c : Fin 1024) (e : Fin 16) : EReal :=
  val_main_v26 (F := Ideal) x0 x1 x2 x3 (ix2 r e) * answer (row x3 r) (mat x4 e) (mat x5 e) (mat x6 e) c

set_option maxHeartbeats 1600000 in
/-- The sum starts at zero. -/
theorem start_entry (i : S22528x1024.Idx) : val_main_v27 (F := Ideal) i = (0 : EReal) := by
  pointwise [val_main_v27, val_main_cst_0]

set_option maxHeartbeats 1600000 in
/-- The reference's step for expert 0. -/
theorem step_0 (r : Fin 22528) (c : Fin 1024) : val_main_v42 (F := Ideal) x0 x1 x2 x3 x4 x5 x6 (ix2 r c)
    = val_main_v27 (F := Ideal) (ix2 r c) + added x0 x1 x2 x3 x4 x5 x6 r c 0 := by
  pointwise [val_main_v28, val_main_v29, val_main_v30, val_main_call3_v0, val_main_call3_v1, val_main_call3_cst, val_main_call3_v2, val_main_call3_v3, val_main_call3_cst_0, val_main_call3_v4, val_main_call3_v5, val_main_v31, val_main_v32, val_main_v33, val_main_v34, val_main_v35, val_main_v36, val_main_v37, val_main_v38, val_main_v39, val_main_v40, val_main_v41, val_main_v42, val_main_v0, val_main_v1, val_main_v2, val_main_v3]
  simp only [mul_recip]
  rfl

set_option maxHeartbeats 1600000 in
/-- The reference's step for expert 1. -/
theorem step_1 (r : Fin 22528) (c : Fin 1024) : val_main_v57 (F := Ideal) x0 x1 x2 x3 x4 x5 x6 (ix2 r c)
    = val_main_v42 (F := Ideal) x0 x1 x2 x3 x4 x5 x6 (ix2 r c) + added x0 x1 x2 x3 x4 x5 x6 r c 1 := by
  pointwise [val_main_v43, val_main_v44, val_main_v45, val_main_call4_v0, val_main_call4_v1, val_main_call4_cst, val_main_call4_v2, val_main_call4_v3, val_main_call4_cst_0, val_main_call4_v4, val_main_call4_v5, val_main_v46, val_main_v47, val_main_v48, val_main_v49, val_main_v50, val_main_v51, val_main_v52, val_main_v53, val_main_v54, val_main_v55, val_main_v56, val_main_v57, val_main_v0, val_main_v1, val_main_v2, val_main_v3]
  simp only [mul_recip]
  rfl

set_option maxHeartbeats 1600000 in
/-- The reference's step for expert 2. -/
theorem step_2 (r : Fin 22528) (c : Fin 1024) : val_main_v72 (F := Ideal) x0 x1 x2 x3 x4 x5 x6 (ix2 r c)
    = val_main_v57 (F := Ideal) x0 x1 x2 x3 x4 x5 x6 (ix2 r c) + added x0 x1 x2 x3 x4 x5 x6 r c 2 := by
  pointwise [val_main_v58, val_main_v59, val_main_v60, val_main_call5_v0, val_main_call5_v1, val_main_call5_cst, val_main_call5_v2, val_main_call5_v3, val_main_call5_cst_0, val_main_call5_v4, val_main_call5_v5, val_main_v61, val_main_v62, val_main_v63, val_main_v64, val_main_v65, val_main_v66, val_main_v67, val_main_v68, val_main_v69, val_main_v70, val_main_v71, val_main_v72, val_main_v0, val_main_v1, val_main_v2, val_main_v3]
  simp only [mul_recip]
  rfl

set_option maxHeartbeats 1600000 in
/-- The reference's step for expert 3. -/
theorem step_3 (r : Fin 22528) (c : Fin 1024) : val_main_v87 (F := Ideal) x0 x1 x2 x3 x4 x5 x6 (ix2 r c)
    = val_main_v72 (F := Ideal) x0 x1 x2 x3 x4 x5 x6 (ix2 r c) + added x0 x1 x2 x3 x4 x5 x6 r c 3 := by
  pointwise [val_main_v73, val_main_v74, val_main_v75, val_main_call6_v0, val_main_call6_v1, val_main_call6_cst, val_main_call6_v2, val_main_call6_v3, val_main_call6_cst_0, val_main_call6_v4, val_main_call6_v5, val_main_v76, val_main_v77, val_main_v78, val_main_v79, val_main_v80, val_main_v81, val_main_v82, val_main_v83, val_main_v84, val_main_v85, val_main_v86, val_main_v87, val_main_v0, val_main_v1, val_main_v2, val_main_v3]
  simp only [mul_recip]
  rfl

set_option maxHeartbeats 1600000 in
/-- The reference's step for expert 4. -/
theorem step_4 (r : Fin 22528) (c : Fin 1024) : val_main_v102 (F := Ideal) x0 x1 x2 x3 x4 x5 x6 (ix2 r c)
    = val_main_v87 (F := Ideal) x0 x1 x2 x3 x4 x5 x6 (ix2 r c) + added x0 x1 x2 x3 x4 x5 x6 r c 4 := by
  pointwise [val_main_v88, val_main_v89, val_main_v90, val_main_call7_v0, val_main_call7_v1, val_main_call7_cst, val_main_call7_v2, val_main_call7_v3, val_main_call7_cst_0, val_main_call7_v4, val_main_call7_v5, val_main_v91, val_main_v92, val_main_v93, val_main_v94, val_main_v95, val_main_v96, val_main_v97, val_main_v98, val_main_v99, val_main_v100, val_main_v101, val_main_v102, val_main_v0, val_main_v1, val_main_v2, val_main_v3]
  simp only [mul_recip]
  rfl

set_option maxHeartbeats 1600000 in
/-- The reference's step for expert 5. -/
theorem step_5 (r : Fin 22528) (c : Fin 1024) : val_main_v117 (F := Ideal) x0 x1 x2 x3 x4 x5 x6 (ix2 r c)
    = val_main_v102 (F := Ideal) x0 x1 x2 x3 x4 x5 x6 (ix2 r c) + added x0 x1 x2 x3 x4 x5 x6 r c 5 := by
  pointwise [val_main_v103, val_main_v104, val_main_v105, val_main_call8_v0, val_main_call8_v1, val_main_call8_cst, val_main_call8_v2, val_main_call8_v3, val_main_call8_cst_0, val_main_call8_v4, val_main_call8_v5, val_main_v106, val_main_v107, val_main_v108, val_main_v109, val_main_v110, val_main_v111, val_main_v112, val_main_v113, val_main_v114, val_main_v115, val_main_v116, val_main_v117, val_main_v0, val_main_v1, val_main_v2, val_main_v3]
  simp only [mul_recip]
  rfl

set_option maxHeartbeats 1600000 in
/-- The reference's step for expert 6. -/
theorem step_6 (r : Fin 22528) (c : Fin 1024) : val_main_v132 (F := Ideal) x0 x1 x2 x3 x4 x5 x6 (ix2 r c)
    = val_main_v117 (F := Ideal) x0 x1 x2 x3 x4 x5 x6 (ix2 r c) + added x0 x1 x2 x3 x4 x5 x6 r c 6 := by
  pointwise [val_main_v118, val_main_v119, val_main_v120, val_main_call9_v0, val_main_call9_v1, val_main_call9_cst, val_main_call9_v2, val_main_call9_v3, val_main_call9_cst_0, val_main_call9_v4, val_main_call9_v5, val_main_v121, val_main_v122, val_main_v123, val_main_v124, val_main_v125, val_main_v126, val_main_v127, val_main_v128, val_main_v129, val_main_v130, val_main_v131, val_main_v132, val_main_v0, val_main_v1, val_main_v2, val_main_v3]
  simp only [mul_recip]
  rfl

set_option maxHeartbeats 1600000 in
/-- The reference's step for expert 7. -/
theorem step_7 (r : Fin 22528) (c : Fin 1024) : val_main_v147 (F := Ideal) x0 x1 x2 x3 x4 x5 x6 (ix2 r c)
    = val_main_v132 (F := Ideal) x0 x1 x2 x3 x4 x5 x6 (ix2 r c) + added x0 x1 x2 x3 x4 x5 x6 r c 7 := by
  pointwise [val_main_v133, val_main_v134, val_main_v135, val_main_call10_v0, val_main_call10_v1, val_main_call10_cst, val_main_call10_v2, val_main_call10_v3, val_main_call10_cst_0, val_main_call10_v4, val_main_call10_v5, val_main_v136, val_main_v137, val_main_v138, val_main_v139, val_main_v140, val_main_v141, val_main_v142, val_main_v143, val_main_v144, val_main_v145, val_main_v146, val_main_v147, val_main_v0, val_main_v1, val_main_v2, val_main_v3]
  simp only [mul_recip]
  rfl

set_option maxHeartbeats 1600000 in
/-- The reference's step for expert 8. -/
theorem step_8 (r : Fin 22528) (c : Fin 1024) : val_main_v162 (F := Ideal) x0 x1 x2 x3 x4 x5 x6 (ix2 r c)
    = val_main_v147 (F := Ideal) x0 x1 x2 x3 x4 x5 x6 (ix2 r c) + added x0 x1 x2 x3 x4 x5 x6 r c 8 := by
  pointwise [val_main_v148, val_main_v149, val_main_v150, val_main_call11_v0, val_main_call11_v1, val_main_call11_cst, val_main_call11_v2, val_main_call11_v3, val_main_call11_cst_0, val_main_call11_v4, val_main_call11_v5, val_main_v151, val_main_v152, val_main_v153, val_main_v154, val_main_v155, val_main_v156, val_main_v157, val_main_v158, val_main_v159, val_main_v160, val_main_v161, val_main_v162, val_main_v0, val_main_v1, val_main_v2, val_main_v3]
  simp only [mul_recip]
  rfl

set_option maxHeartbeats 1600000 in
/-- The reference's step for expert 9. -/
theorem step_9 (r : Fin 22528) (c : Fin 1024) : val_main_v177 (F := Ideal) x0 x1 x2 x3 x4 x5 x6 (ix2 r c)
    = val_main_v162 (F := Ideal) x0 x1 x2 x3 x4 x5 x6 (ix2 r c) + added x0 x1 x2 x3 x4 x5 x6 r c 9 := by
  pointwise [val_main_v163, val_main_v164, val_main_v165, val_main_call12_v0, val_main_call12_v1, val_main_call12_cst, val_main_call12_v2, val_main_call12_v3, val_main_call12_cst_0, val_main_call12_v4, val_main_call12_v5, val_main_v166, val_main_v167, val_main_v168, val_main_v169, val_main_v170, val_main_v171, val_main_v172, val_main_v173, val_main_v174, val_main_v175, val_main_v176, val_main_v177, val_main_v0, val_main_v1, val_main_v2, val_main_v3]
  simp only [mul_recip]
  rfl

set_option maxHeartbeats 1600000 in
/-- The reference's step for expert 10. -/
theorem step_10 (r : Fin 22528) (c : Fin 1024) : val_main_v192 (F := Ideal) x0 x1 x2 x3 x4 x5 x6 (ix2 r c)
    = val_main_v177 (F := Ideal) x0 x1 x2 x3 x4 x5 x6 (ix2 r c) + added x0 x1 x2 x3 x4 x5 x6 r c 10 := by
  pointwise [val_main_v178, val_main_v179, val_main_v180, val_main_call13_v0, val_main_call13_v1, val_main_call13_cst, val_main_call13_v2, val_main_call13_v3, val_main_call13_cst_0, val_main_call13_v4, val_main_call13_v5, val_main_v181, val_main_v182, val_main_v183, val_main_v184, val_main_v185, val_main_v186, val_main_v187, val_main_v188, val_main_v189, val_main_v190, val_main_v191, val_main_v192, val_main_v0, val_main_v1, val_main_v2, val_main_v3]
  simp only [mul_recip]
  rfl

set_option maxHeartbeats 1600000 in
/-- The reference's step for expert 11. -/
theorem step_11 (r : Fin 22528) (c : Fin 1024) : val_main_v207 (F := Ideal) x0 x1 x2 x3 x4 x5 x6 (ix2 r c)
    = val_main_v192 (F := Ideal) x0 x1 x2 x3 x4 x5 x6 (ix2 r c) + added x0 x1 x2 x3 x4 x5 x6 r c 11 := by
  pointwise [val_main_v193, val_main_v194, val_main_v195, val_main_call14_v0, val_main_call14_v1, val_main_call14_cst, val_main_call14_v2, val_main_call14_v3, val_main_call14_cst_0, val_main_call14_v4, val_main_call14_v5, val_main_v196, val_main_v197, val_main_v198, val_main_v199, val_main_v200, val_main_v201, val_main_v202, val_main_v203, val_main_v204, val_main_v205, val_main_v206, val_main_v207, val_main_v0, val_main_v1, val_main_v2, val_main_v3]
  simp only [mul_recip]
  rfl

set_option maxHeartbeats 1600000 in
/-- The reference's step for expert 12. -/
theorem step_12 (r : Fin 22528) (c : Fin 1024) : val_main_v222 (F := Ideal) x0 x1 x2 x3 x4 x5 x6 (ix2 r c)
    = val_main_v207 (F := Ideal) x0 x1 x2 x3 x4 x5 x6 (ix2 r c) + added x0 x1 x2 x3 x4 x5 x6 r c 12 := by
  pointwise [val_main_v208, val_main_v209, val_main_v210, val_main_call15_v0, val_main_call15_v1, val_main_call15_cst, val_main_call15_v2, val_main_call15_v3, val_main_call15_cst_0, val_main_call15_v4, val_main_call15_v5, val_main_v211, val_main_v212, val_main_v213, val_main_v214, val_main_v215, val_main_v216, val_main_v217, val_main_v218, val_main_v219, val_main_v220, val_main_v221, val_main_v222, val_main_v0, val_main_v1, val_main_v2, val_main_v3]
  simp only [mul_recip]
  rfl

set_option maxHeartbeats 1600000 in
/-- The reference's step for expert 13. -/
theorem step_13 (r : Fin 22528) (c : Fin 1024) : val_main_v237 (F := Ideal) x0 x1 x2 x3 x4 x5 x6 (ix2 r c)
    = val_main_v222 (F := Ideal) x0 x1 x2 x3 x4 x5 x6 (ix2 r c) + added x0 x1 x2 x3 x4 x5 x6 r c 13 := by
  pointwise [val_main_v223, val_main_v224, val_main_v225, val_main_call16_v0, val_main_call16_v1, val_main_call16_cst, val_main_call16_v2, val_main_call16_v3, val_main_call16_cst_0, val_main_call16_v4, val_main_call16_v5, val_main_v226, val_main_v227, val_main_v228, val_main_v229, val_main_v230, val_main_v231, val_main_v232, val_main_v233, val_main_v234, val_main_v235, val_main_v236, val_main_v237, val_main_v0, val_main_v1, val_main_v2, val_main_v3]
  simp only [mul_recip]
  rfl

set_option maxHeartbeats 1600000 in
/-- The reference's step for expert 14. -/
theorem step_14 (r : Fin 22528) (c : Fin 1024) : val_main_v252 (F := Ideal) x0 x1 x2 x3 x4 x5 x6 (ix2 r c)
    = val_main_v237 (F := Ideal) x0 x1 x2 x3 x4 x5 x6 (ix2 r c) + added x0 x1 x2 x3 x4 x5 x6 r c 14 := by
  pointwise [val_main_v238, val_main_v239, val_main_v240, val_main_call17_v0, val_main_call17_v1, val_main_call17_cst, val_main_call17_v2, val_main_call17_v3, val_main_call17_cst_0, val_main_call17_v4, val_main_call17_v5, val_main_v241, val_main_v242, val_main_v243, val_main_v244, val_main_v245, val_main_v246, val_main_v247, val_main_v248, val_main_v249, val_main_v250, val_main_v251, val_main_v252, val_main_v0, val_main_v1, val_main_v2, val_main_v3]
  simp only [mul_recip]
  rfl

set_option maxHeartbeats 1600000 in
/-- The reference's step for expert 15. -/
theorem step_15 (r : Fin 22528) (c : Fin 1024) : val_main_v267 (F := Ideal) x0 x1 x2 x3 x4 x5 x6 (ix2 r c)
    = val_main_v252 (F := Ideal) x0 x1 x2 x3 x4 x5 x6 (ix2 r c) + added x0 x1 x2 x3 x4 x5 x6 r c 15 := by
  pointwise [val_main_v253, val_main_v254, val_main_v255, val_main_call18_v0, val_main_call18_v1, val_main_call18_cst, val_main_call18_v2, val_main_call18_v3, val_main_call18_cst_0, val_main_call18_v4, val_main_call18_v5, val_main_v256, val_main_v257, val_main_v258, val_main_v259, val_main_v260, val_main_v261, val_main_v262, val_main_v263, val_main_v264, val_main_v265, val_main_v266, val_main_v267, val_main_v0, val_main_v1, val_main_v2, val_main_v3]
  simp only [mul_recip]
  rfl

set_option maxHeartbeats 1600000 in
/-- The reference's result at a row and a column. -/
theorem result_sum (r : Fin 22528) (c : Fin 1024) :
    val_main_v267 (F := Ideal) x0 x1 x2 x3 x4 x5 x6 (ix2 r c) = ∑ e, added x0 x1 x2 x3 x4 x5 x6 r c e := by
  rw [step_15, step_14, step_13, step_12, step_11, step_10, step_9, step_8, step_7, step_6, step_5, step_4, step_3, step_2, step_1, step_0, start_entry, zero_add]
  simp only [Fin.sum_univ_succ, Fin.sum_univ_zero, add_zero, add_assoc]
  rfl

/-- The reference's result: nothing in an unused tile, two weighted answers in a used one. -/
theorem result_entry (r : Fin 22528) (c : Fin 1024) (h0 : ∀ j, (x0 j).toNat < 16) (h1 : ∀ j, (x1 j).toNat < 16)
    (hg : 0 ≤ x3 (ix2 r 1025)) (hg' : 0 ≤ x3 (ix2 r 1026)) :
    val_main_v267 (F := Ideal) x0 x1 x2 x3 x4 x5 x6 (ix2 r c)
      = if IntOp.cmpi .sgt (x2 (ix1 (tile r))) 0#32 = 1#1 then
          x3 (ix2 r 1025) * answer (row x3 r) (mat x4 ⟨(x0 (ix1 (tile r))).toNat, h0 _⟩) (mat x5 ⟨(x0 (ix1 (tile r))).toNat, h0 _⟩) (mat x6 ⟨(x0 (ix1 (tile r))).toNat, h0 _⟩) c
          + x3 (ix2 r 1026) * answer (row x3 r) (mat x4 ⟨(x1 (ix1 (tile r))).toNat, h1 _⟩) (mat x5 ⟨(x1 (ix1 (tile r))).toNat, h1 _⟩) (mat x6 ⟨(x1 (ix1 (tile r))).toNat, h1 _⟩) c
        else 0 := by
  rw [result_sum]
  simp only [added, weight_of_expert x0 x1 x2 x3 r _ h0 h1]
  rw [sum_share _ _ (by unfold Scalar.select; split_ifs; exacts [hg, le_rfl]) (by unfold Scalar.select; split_ifs; exacts [hg', le_rfl]) _ _
    (fun e => answer (row x3 r) (mat x4 e) (mat x5 e) (mat x6 e) c)]
  unfold Scalar.select
  generalize IntOp.cmpi .sgt (x2 (ix1 (tile r))) 0#32 = z
  by_cases hz : z = 1#1
  · rw [if_pos hz]
    subst hz
    rfl
  · have hz' : ¬ z = 1 := hz
    simp only [if_neg hz, if_neg hz', zero_mul, add_zero]

end Cert.ExpertsRefIdeal.Entry

end
-- ==== Proof.ExpertsArray.lean ====
/- The experts' result array, entry by entry: what the launch leaves is the reference's term at the same arguments. -/
module

public import proofs.«01_k».proof.Proof.ExpertsTile
public import proofs.«01_k».proof.Proof.ExpertsRefEntry
public import Idealize.ShloMosaic.Lib.Pipeline.Value
public import Idealize.ShloMosaic.Lib.Pipeline.Covers

@[expose] public section

set_option maxRecDepth 16384

noncomputable section

namespace Cert.ExpertsIdeal.Tile

open Cert.ExpertsIdeal.Gen Cert.ExpertsSum
open Idealize.ShloMosaic Idealize.ShloMosaic.TcCoe Idealize.SL.Sem
open Idealize.ShloMosaic.Pipeline (Dat Cfg Window)

variable (m : (ℓ : Loc nD τ sig) → Buf (Elt Ideal) ℓ) (hO : Ok m) (c : Dev nD)

/-- A grid point as a tile's number. -/
def tileNo (t : Fin (pipe m hO).N) : Fin 88 := ⟨(grid0.coords t 0).val, (grid0.coords t 0).isLt⟩

/-- The row of the packed rows that row `r` of a tile is. -/
def rowNo (t : Fin (pipe m hO).N) (r : Fin 256) : Fin 22528 := ⟨256 * (tileNo m hO t).val + r.val, by have := (tileNo m hO t).isLt; omega⟩

theorem tile_rowNo (t : Fin (pipe m hO).N) (r : Fin 256) : Cert.ExpertsRefIdeal.Entry.tile (rowNo m hO t r) = tileNo m hO t := by
  apply Fin.ext
  show (256 * (tileNo m hO t).val + r.val) / 256 = _
  omega

theorem off_tile (i : grid0.Coords) : (BitVec.ofNat 32 (i 0).val).toNat = (i 0).val := by
  have hi : (i 0).val < 88 := (i 0).isLt
  rw [BitVec.toNat_ofNat, Nat.mod_eq_of_lt (by omega)]

/-- The block of packed rows at a tile. -/
theorem rows_at (t : Fin (pipe m hO).N) (r : Fin 256) (k : Fin 1152) :
    (iblk m hO c 0 t : S256x1152.Idx → EReal) (ix2 r k) = (V m c main_arg3 : S22528x1152.Idx → EReal) (ix2 (rowNo m hO t r) k) := by
  show (V m c main_arg3 : S22528x1152.Idx → EReal) _ = _
  congr 1
  funext a
  apply Fin.ext
  fin_cases a
  · show (BitVec.ofNat 32 (grid0.coords t 0).val).toNat * 256 + 1 * r.val = 256 * (grid0.coords t 0).val + r.val
    rw [off_tile]
    omega
  · show 0 * 1152 + 1 * k.val = k.val
    omega

/-- The gate matrices of the first expert at a tile. -/
theorem weights_1 (t : Fin (pipe m hO).N) (hs : ∀ j, ((tbl m 0 : S88.Idx → BitVec 32) j).toNat < 16) :
    blkMat (iblk m hO c 1 t : S1x1024x512.Idx → EReal)
      = Cert.ExpertsRefIdeal.Entry.mat (V m c main_arg4 : S16x1024x512.Idx → EReal) ⟨((tbl m 0 : S88.Idx → BitVec 32) (ix1 (tileNo m hO t))).toNat, hs _⟩ := by
  funext k h
  show (V m c main_arg4 : S16x1024x512.Idx → EReal) _ = (V m c main_arg4 : S16x1024x512.Idx → EReal) (ix3 _ k h)
  congr 1
  funext a
  apply Fin.ext
  have hm := map_1 (tbl m) (grid0.coords t)
  fin_cases a
  · show (cc0_transform_1 k0_off1_inb numel1_S1 (tbl m) (grid0.coords t) 0) * 1 + 1 * 0 = _
    rw [hm]
    show ((tbl m 0 : S88.Idx → BitVec 32) (tileIx (grid0.coords t))).toNat * 1 + 1 * 0 = ((tbl m 0 : S88.Idx → BitVec 32) (ix1 (tileNo m hO t))).toNat
    rw [Nat.mul_one]
    rfl
  · show (cc0_transform_1 k0_off1_inb numel1_S1 (tbl m) (grid0.coords t) 1) * 1024 + 1 * k.val = k.val
    rw [hm]
    show 0 * 1024 + 1 * k.val = k.val
    omega
  · show (cc0_transform_1 k0_off1_inb numel1_S1 (tbl m) (grid0.coords t) 2) * 512 + 1 * h.val = h.val
    rw [hm]
    show 0 * 512 + 1 * h.val = h.val
    omega

/-- The linear matrices of the first expert at a tile. -/
theorem weights_2 (t : Fin (pipe m hO).N) (hs : ∀ j, ((tbl m 0 : S88.Idx → BitVec 32) j).toNat < 16) :
    blkMat (iblk m hO c 2 t : S1x1024x512.Idx → EReal)
      = Cert.ExpertsRefIdeal.Entry.mat (V m c main_arg5 : S16x1024x512.Idx → EReal) ⟨((tbl m 0 : S88.Idx → BitVec 32) (ix1 (tileNo m hO t))).toNat, hs _⟩ := by
  funext k h
  show (V m c main_arg5 : S16x1024x512.Idx → EReal) _ = (V m c main_arg5 : S16x1024x512.Idx → EReal) (ix3 _ k h)
  congr 1
  funext a
  apply Fin.ext
  have hm := map_2 (tbl m) (grid0.coords t)
  fin_cases a
  · show (cc0_transform_2 k0_off1_inb numel1_S1 (tbl m) (grid0.coords t) 0) * 1 + 1 * 0 = _
    rw [hm]
    show ((tbl m 0 : S88.Idx → BitVec 32) (tileIx (grid0.coords t))).toNat * 1 + 1 * 0 = ((tbl m 0 : S88.Idx → BitVec 32) (ix1 (tileNo m hO t))).toNat
    rw [Nat.mul_one]
    rfl
  · show (cc0_transform_2 k0_off1_inb numel1_S1 (tbl m) (grid0.coords t) 1) * 1024 + 1 * k.val = k.val
    rw [hm]
    show 0 * 1024 + 1 * k.val = k.val
    omega
  · show (cc0_transform_2 k0_off1_inb numel1_S1 (tbl m) (grid0.coords t) 2) * 512 + 1 * h.val = h.val
    rw [hm]
    show 0 * 512 + 1 * h.val = h.val
    omega

/-- The second-layer matrix of the first expert at a tile. -/
theorem weights_3 (t : Fin (pipe m hO).N) (hs : ∀ j, ((tbl m 0 : S88.Idx → BitVec 32) j).toNat < 16) :
    blkMat (iblk m hO c 3 t : S1x512x1024.Idx → EReal)
      = Cert.ExpertsRefIdeal.Entry.mat (V m c main_arg6 : S16x512x1024.Idx → EReal) ⟨((tbl m 0 : S88.Idx → BitVec 32) (ix1 (tileNo m hO t))).toNat, hs _⟩ := by
  funext k h
  show (V m c main_arg6 : S16x512x1024.Idx → EReal) _ = (V m c main_arg6 : S16x512x1024.Idx → EReal) (ix3 _ k h)
  congr 1
  funext a
  apply Fin.ext
  have hm := map_3 (tbl m) (grid0.coords t)
  fin_cases a
  · show (cc0_transform_3 k0_off1_inb numel1_S1 (tbl m) (grid0.coords t) 0) * 1 + 1 * 0 = _
    rw [hm]
    show ((tbl m 0 : S88.Idx → BitVec 32) (tileIx (grid0.coords t))).toNat * 1 + 1 * 0 = ((tbl m 0 : S88.Idx → BitVec 32) (ix1 (tileNo m hO t))).toNat
    rw [Nat.mul_one]
    rfl
  · show (cc0_transform_3 k0_off1_inb numel1_S1 (tbl m) (grid0.coords t) 1) * 512 + 1 * k.val = k.val
    rw [hm]
    show 0 * 512 + 1 * k.val = k.val
    omega
  · show (cc0_transform_3 k0_off1_inb numel1_S1 (tbl m) (grid0.coords t) 2) * 1024 + 1 * h.val = h.val
    rw [hm]
    show 0 * 1024 + 1 * h.val = h.val
    omega

/-- The gate matrices of the second expert at a tile. -/
theorem weights_4 (t : Fin (pipe m hO).N) (hs : ∀ j, ((tbl m 1 : S88.Idx → BitVec 32) j).toNat < 16) :
    blkMat (iblk m hO c 4 t : S1x1024x512.Idx → EReal)
      = Cert.ExpertsRefIdeal.Entry.mat (V m c main_arg4 : S16x1024x512.Idx → EReal) ⟨((tbl m 1 : S88.Idx → BitVec 32) (ix1 (tileNo m hO t))).toNat, hs _⟩ := by
  funext k h
  show (V m c main_arg4 : S16x1024x512.Idx → EReal) _ = (V m c main_arg4 : S16x1024x512.Idx → EReal) (ix3 _ k h)
  congr 1
  funext a
  apply Fin.ext
  have hm := map_4 (tbl m) (grid0.coords t)
  fin_cases a
  · show (cc0_transform_4 k0_off1_inb numel1_S1 (tbl m) (grid0.coords t) 0) * 1 + 1 * 0 = _
    rw [hm]
    show ((tbl m 1 : S88.Idx → BitVec 32) (tileIx (grid0.coords t))).toNat * 1 + 1 * 0 = ((tbl m 1 : S88.Idx → BitVec 32) (ix1 (tileNo m hO t))).toNat
    rw [Nat.mul_one]
    rfl
  · show (cc0_transform_4 k0_off1_inb numel1_S1 (tbl m) (grid0.coords t) 1) * 1024 + 1 * k.val = k.val
    rw [hm]
    show 0 * 1024 + 1 * k.val = k.val
    omega
  · show (cc0_transform_4 k0_off1_inb numel1_S1 (tbl m) (grid0.coords t) 2) * 512 + 1 * h.val = h.val
    rw [hm]
    show 0 * 512 + 1 * h.val = h.val
    omega

/-- The linear matrices of the second expert at a tile. -/
theorem weights_5 (t : Fin (pipe m hO).N) (hs : ∀ j, ((tbl m 1 : S88.Idx → BitVec 32) j).toNat < 16) :
    blkMat (iblk m hO c 5 t : S1x1024x512.Idx → EReal)
      = Cert.ExpertsRefIdeal.Entry.mat (V m c main_arg5 : S16x1024x512.Idx → EReal) ⟨((tbl m 1 : S88.Idx → BitVec 32) (ix1 (tileNo m hO t))).toNat, hs _⟩ := by
  funext k h
  show (V m c main_arg5 : S16x1024x512.Idx → EReal) _ = (V m c main_arg5 : S16x1024x512.Idx → EReal) (ix3 _ k h)
  congr 1
  funext a
  apply Fin.ext
  have hm := map_5 (tbl m) (grid0.coords t)
  fin_cases a
  · show (cc0_transform_5 k0_off1_inb numel1_S1 (tbl m) (grid0.coords t) 0) * 1 + 1 * 0 = _
    rw [hm]
    show ((tbl m 1 : S88.Idx → BitVec 32) (tileIx (grid0.coords t))).toNat * 1 + 1 * 0 = ((tbl m 1 : S88.Idx → BitVec 32) (ix1 (tileNo m hO t))).toNat
    rw [Nat.mul_one]
    rfl
  · show (cc0_transform_5 k0_off1_inb numel1_S1 (tbl m) (grid0.coords t) 1) * 1024 + 1 * k.val = k.val
    rw [hm]
    show 0 * 1024 + 1 * k.val = k.val
    omega
  · show (cc0_transform_5 k0_off1_inb numel1_S1 (tbl m) (grid0.coords t) 2) * 512 + 1 * h.val = h.val
    rw [hm]
    show 0 * 512 + 1 * h.val = h.val
    omega

/-- The second-layer matrix of the second expert at a tile. -/
theorem weights_6 (t : Fin (pipe m hO).N) (hs : ∀ j, ((tbl m 1 : S88.Idx → BitVec 32) j).toNat < 16) :
    blkMat (iblk m hO c 6 t : S1x512x1024.Idx → EReal)
      = Cert.ExpertsRefIdeal.Entry.mat (V m c main_arg6 : S16x512x1024.Idx → EReal) ⟨((tbl m 1 : S88.Idx → BitVec 32) (ix1 (tileNo m hO t))).toNat, hs _⟩ := by
  funext k h
  show (V m c main_arg6 : S16x512x1024.Idx → EReal) _ = (V m c main_arg6 : S16x512x1024.Idx → EReal) (ix3 _ k h)
  congr 1
  funext a
  apply Fin.ext
  have hm := map_6 (tbl m) (grid0.coords t)
  fin_cases a
  · show (cc0_transform_6 k0_off1_inb numel1_S1 (tbl m) (grid0.coords t) 0) * 1 + 1 * 0 = _
    rw [hm]
    show ((tbl m 1 : S88.Idx → BitVec 32) (tileIx (grid0.coords t))).toNat * 1 + 1 * 0 = ((tbl m 1 : S88.Idx → BitVec 32) (ix1 (tileNo m hO t))).toNat
    rw [Nat.mul_one]
    rfl
  · show (cc0_transform_6 k0_off1_inb numel1_S1 (tbl m) (grid0.coords t) 1) * 512 + 1 * k.val = k.val
    rw [hm]
    show 0 * 512 + 1 * k.val = k.val
    omega
  · show (cc0_transform_6 k0_off1_inb numel1_S1 (tbl m) (grid0.coords t) 2) * 1024 + 1 * h.val = h.val
    rw [hm]
    show 0 * 1024 + 1 * h.val = h.val
    omega

/-- The packed rows. -/
def packed : S22528x1152.Idx → EReal := V m c main_arg3

/-- The reference's result at the launch's arguments. -/
def want : S22528x1024.Idx → EReal :=
  Cert.ExpertsRefIdeal.Read.val_main_v267 (F := Ideal) (V m c main_arg0) (V m c main_arg1) (V m c main_arg2) (V m c main_arg3) (V m c main_arg4)
    (V m c main_arg5) (V m c main_arg6)

set_option maxHeartbeats 1600000 in
/-- What a tile leaves is its block of that result. -/
theorem made_entry (t : Fin (pipe m hO).N) (hlo : ∀ j, ((tbl m 0 : S88.Idx → BitVec 32) j).toNat < 16)
    (hhi : ∀ j, ((tbl m 1 : S88.Idx → BitVec 32) j).toNat < 16)
    (hw : ∀ (r : Fin 22528) (k : Fin 2) (q : Fin 1152), q.val = 1025 + k.val →
      (0 : EReal) ≤ packed m c (ix2 r q) ∧ packed m c (ix2 r q) ≠ (⊤ : EReal))
    (r : Fin 256) (q : Fin 1024) :
    (made m hO c t : S256x1024.Idx → EReal) (ix2 r q) = want m c (ix2 (rowNo m hO t r) q) := by
  have hv (j : Fin 3) := V_pre m c j
  have g0 := hw (rowNo m hO t r) 0 1025 rfl
  have g1 := hw (rowNo m hO t r) 1 1026 rfl
  have e0 := rows_at m hO c t r 1025
  have e1 := rows_at m hO c t r 1026
  have hrow : tileRow (iblk m hO c 0 t) r = Cert.ExpertsRefIdeal.Entry.row (V m c main_arg3) (rowNo m hO t r) := by
    funext k
    exact rows_at m hO c t r _
  have key := out_entry (iblk m hO c 0 t) (iblk m hO c 1 t) (iblk m hO c 2 t) (iblk m hO c 4 t) (iblk m hO c 5 t) (iblk m hO c 3 t) (iblk m hO c 6 t)
    (usedWord c (grid0.coords t) (tbl m 2)) r q (by rw [e0]; exact g0) (by rw [e1]; exact g1)
  rw [e0, e1, hrow, weights_1 m hO c t hlo, weights_2 m hO c t hlo, weights_3 m hO c t hlo, weights_4 m hO c t hhi, weights_5 m hO c t hhi, weights_6 m hO c t hhi] at key
  refine key.trans ?_
  obtain rfl : c = 0 := Subsingleton.elim _ _
  have res := Cert.ExpertsRefIdeal.Entry.result_entry (V m 0 main_arg0) (V m 0 main_arg1) (V m 0 main_arg2) (V m 0 main_arg3) (V m 0 main_arg4)
    (V m 0 main_arg5) (V m 0 main_arg6) (rowNo m hO t r) q hlo hhi g0.1 g1.1
  unfold want
  refine Eq.trans ?_ res.symm
  have hu := usedWord_eq (0 : Dev nD) (grid0.coords t) (tbl m 2)
  rw [hu]
  simp only [tile_rowNo]
  rfl

/-- The output is written back at every tile. -/
theorem writes_back : ∀ t : Fin (pipe m hO).N, ((pipe m hO).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The launch leaves the reference's result. -/
theorem array_eq (hlo : ∀ j, ((tbl m 0 : S88.Idx → BitVec 32) j).toNat < 16)
    (hhi : ∀ j, ((tbl m 1 : S88.Idx → BitVec 32) j).toNat < 16)
    (hw : ∀ (r : Fin 22528) (k : Fin 2) (q : Fin 1152), q.val = 1025 + k.val →
      (0 : EReal) ≤ packed m c (ix2 r q) ∧ packed m c (ix2 r q) ≠ (⊤ : EReal)) :
    (dats m hO 0 c).arrAt 7 (pipe m hO).N = want m c := by
  refine (dats m hO 0 c).arrAt_eq_of_cover 7 (want m c) ?_ ?_
  · intro t _
    refine funext fun (j : S256x1024.Idx) => ?_
    obtain ⟨r, q, rfl⟩ : ∃ (r : Fin 256) (q : Fin 1024), j = ix2 r q := ⟨j 0, j 1, eq_ix2 j⟩
    refine (made_entry m hO c t hlo hhi hw r q).trans ?_
    show want m c _ = want m c _
    congr 1
    funext a
    apply Fin.ext
    fin_cases a
    · show 256 * (grid0.coords t 0).val + r.val = (BitVec.ofNat 32 (grid0.coords t 0).val).toNat * 256 + 1 * r.val
      rw [off_tile]
      omega
    · show q.val = 0 * 1024 + 1 * q.val
      omega
  · refine fun (i : S22528x1024.Idx) => ?_
    have hi0 : (i 0).val < 22528 := (i 0).isLt
    have hi1 : (i 1).val < 1024 := (i 1).isLt
    obtain ⟨t, ht⟩ := Pipeline.Grid.coords_surjective grid0 (fun a => match a with | ⟨0, _⟩ => ⟨(i 0).val / 256, by show _ < 88; omega⟩)
    refine ⟨t, writes_back m hO t, ?_⟩
    have h0 : (grid0.coords t 0).val = (i 0).val / 256 := by rw [ht]
    refine Eq.mpr (congrArg (fun s : Finset S22528x1024.Idx => i ∈ s) (View.set_slice_whole main_v0 (((pipe m hO).win 7).rect t : Rect S22528x1024))) ?_
    refine Rect.mem_set_unit.mpr fun (a : Fin 2) => ?_
    fin_cases a
    · show (BitVec.ofNat 32 (grid0.coords t 0).val).toNat * 256 ≤ (i 0).val ∧ (i 0).val < (BitVec.ofNat 32 (grid0.coords t 0).val).toNat * 256 + 256
      rw [off_tile, h0]
      omega
    · show 0 * 1024 ≤ (i 1).val ∧ (i 1).val < 0 * 1024 + 1024
      omega

end Cert.ExpertsIdeal.Tile

end
-- ==== Proof.InProjSum.lean ====
/- The mixer's input projection of one row, as arithmetic on extended reals: the normalised row, its product with a
   column, the norm of one head of 64 columns, and that two heads normalised side by side through a difference of
   sums are each normalised by their own. -/
module

public import Idealize.ShloMosaic.Lib.Pointwise
public import Idealize.ShloMosaic.PureOps.Ideal.Laws

@[expose] public section

noncomputable section

namespace Cert.InProjSum

open Idealize.ShloMosaic

/-- The number under the root's sum, as its float word says it. -/
def eps : EReal := Ideal.ofBits .f32 897988541#32

/-- A row divided by its root mean square, times the gains. -/
def normed (x g : Fin 1024 → EReal) (k : Fin 1024) : EReal :=
  x k * Ideal.rsqrt (Ideal.div (∑ j, x j * x j) (Ideal.ofBits .f32 1149239296#32) + eps) * g k

/-- The normalised row's product with one column of the weights. -/
def proj (x g : Fin 1024 → EReal) (w : Fin 1024 → EReal) : EReal := ∑ k, normed x g k * w k

/-- A head's entry divided by the head's root mean square. -/
def headNorm (y : Fin 64 → EReal) (v : EReal) : EReal :=
  v * Ideal.rsqrt (Ideal.div (∑ j, y j * y j) (Ideal.ofBits .f32 1115684864#32) + eps)

/-- The head that column `c` belongs to, among the queries' and keys' 768 columns. -/
def headOf (z : Fin 3840 → EReal) (c : Fin 3840) (h : c.val < 768) (j : Fin 64) : EReal := z ⟨c.val / 64 * 64 + j.val, by omega⟩

/-- One entry of the projection: the queries and keys normalised head by head, the rest as it is. -/
def out (z : Fin 3840 → EReal) (q : Fin 768 → EReal) (c : Fin 3840) : EReal :=
  if h : c.val < 768 then headNorm (headOf z c h) (z c) * q ⟨c.val, h⟩ else z c

/-- A number that is not infinite. -/
def Fin' (a : EReal) : Prop := ∃ r : ℝ, a = (r : EReal)

theorem fin_of_ne {a : EReal} (h : a ≠ ⊤) (h' : a ≠ ⊥) : Fin' a := ⟨a.toReal, (EReal.coe_toReal h h').symm⟩

theorem fin_mul {a b : EReal} : Fin' a → Fin' b → Fin' (a * b) := by
  rintro ⟨r, rfl⟩ ⟨s, rfl⟩
  exact ⟨r * s, by push_cast; rfl⟩

/-- A finite sum of real numbers, summed as extended reals. -/
theorem coe_sum {n : ℕ} (f : Fin n → ℝ) : ∑ k, (f k : EReal) = ((∑ k, f k : ℝ) : EReal) := by
  suffices key : ∀ s : Finset (Fin n), ∑ k ∈ s, (f k : EReal) = ((∑ k ∈ s, f k : ℝ) : EReal) from key _
  intro s
  induction s using Finset.induction_on with
  | empty => simp
  | insert a s ha ih => rw [Finset.sum_insert ha, Finset.sum_insert ha, ih, EReal.coe_add]

theorem fin_sum {n : ℕ} (f : Fin n → EReal) (h : ∀ k, Fin' (f k)) : Fin' (∑ k, f k) := by
  choose r hr using h
  exact ⟨∑ k, r k, by rw [← coe_sum]; exact Finset.sum_congr rfl fun k _ => hr k⟩

theorem eps_pos : ∃ e : ℝ, 0 < e ∧ eps = (e : EReal) := by
  refine ⟨8796093 * (2 : ℝ) ^ (-43 : ℤ), by positivity, ?_⟩
  unfold eps
  simp [Ideal.ofBits, Ideal.ieee, -EReal.coe_mul]

theorem word_1024 : Ideal.ofBits .f32 1149239296#32 = ((1024 : ℝ) : EReal) := by simp [Ideal.ofBits, Ideal.ieee, -EReal.coe_mul]; norm_num

theorem word_64 : Ideal.ofBits .f32 1115684864#32 = ((64 : ℝ) : EReal) := by simp [Ideal.ofBits, Ideal.ieee, -EReal.coe_mul]; norm_num

theorem word_64th : Ideal.ofBits .f32 1015021568#32 = ((1 / 64 : ℝ) : EReal) := by simp [Ideal.ofBits, Ideal.ieee, -EReal.coe_mul]; norm_num

theorem mul_self_nonneg' (a : EReal) : 0 ≤ a * a := by
  induction a using EReal.rec with
  | bot => simp
  | top => simp
  | coe r => exact_mod_cast mul_self_nonneg r

/-- The root's reciprocal times an entry is never infinite: where an entry is infinite the reciprocal is zero. -/
theorem fin_normed (x g : Fin 1024 → EReal) (hg : ∀ k, Fin' (g k)) (k : Fin 1024) : Fin' (normed x g k) := by
  obtain ⟨e, he, heps⟩ := eps_pos
  refine fin_mul ?_ (hg k)
  by_cases hx : ∀ j, Fin' (x j)
  · choose r hr using hx
    have hs : (∑ j, x j * x j : EReal) = ((∑ j, r j * r j : ℝ) : EReal) := by
      rw [← coe_sum]
      refine Finset.sum_congr rfl fun j _ => ?_
      rw [hr j, EReal.coe_mul]
    have hpos : 0 < (∑ j, r j * r j) * (1 / 1024) + e := by
      have : 0 ≤ ∑ j, r j * r j := Finset.sum_nonneg fun j _ => mul_self_nonneg _
      positivity
    rw [hs, word_1024, Ideal.div_coe (by norm_num), heps, hr k, ← EReal.coe_mul, ← EReal.coe_add, Ideal.rsqrt_coe,
      if_neg (not_lt.mpr hpos.le), if_neg hpos.ne']
    exact ⟨_, (EReal.coe_mul _ _).symm⟩
  · rw [not_forall] at hx
    obtain ⟨j, hj⟩ := hx
    have hjj : x j * x j = ⊤ := by
      by_cases h : x j = ⊤
      · rw [h]; rfl
      · by_cases h' : x j = ⊥
        · rw [h']; rfl
        · exact absurd (fin_of_ne h h') hj
    have hs : (∑ j, x j * x j : EReal) = ⊤ :=
      top_le_iff.mp (hjj ▸ Finset.single_le_sum (f := fun j => x j * x j) (fun i _ => mul_self_nonneg' _) (Finset.mem_univ j))
    rw [hs, word_1024, Ideal.div_coe (by norm_num), EReal.top_mul_coe_of_pos (by norm_num), heps, EReal.top_add_coe,
      Ideal.rsqrt_top, mul_zero]
    exact ⟨0, rfl⟩

theorem fin_proj (x g w : Fin 1024 → EReal) (hg : ∀ k, Fin' (g k)) (hw : ∀ k, Fin' (w k)) : Fin' (proj x g w) :=
  fin_sum _ fun k => fin_mul (fin_normed x g hg k) (hw k)

/-- A word below 128 compared with 64. -/
theorem low_word (l : Fin 128) : IntOp.cmpi .slt (BitVec.ofNat 32 l.val) 64#32 = if l.val < 64 then 1#1 else 0#1 := by
  revert l
  decide

theorem select_low (l : Fin 128) (a b : EReal) :
    Scalar.select (IntOp.cmpi .slt (BitVec.ofNat 32 l.val) 64#32) a b = if l.val < 64 then a else b := by
  rw [low_word]
  by_cases h : l.val < 64
  · rw [if_pos h, if_pos h]; rfl
  · rw [if_neg h, if_neg h]; rfl

/-- What the kernel makes of one entry of two heads side by side. -/
def pairNorm (y : Fin 128 → EReal) (l : Fin 128) : EReal :=
  y l * Ideal.rsqrt
    (Scalar.select (IntOp.cmpi .slt (BitVec.ofNat 32 l.val) 64#32)
        (∑ j : Fin 128, Scalar.select (IntOp.cmpi .slt (BitVec.ofNat 32 j.val) 64#32) (y j * y j) 0)
        (∑ j, y j * y j - ∑ j : Fin 128, Scalar.select (IntOp.cmpi .slt (BitVec.ofNat 32 j.val) 64#32) (y j * y j) 0)
      * Ideal.ofBits .f32 1015021568#32 + eps)

/-- The entry's own head. -/
def ownHead (y : Fin 128 → EReal) (l : Fin 128) (j : Fin 64) : EReal := y ⟨l.val / 64 * 64 + j.val, by omega⟩

/-- Each of the two heads is normalised by its own entries. -/
theorem pairNorm_eq (y : Fin 128 → EReal) (hy : ∀ l, Fin' (y l)) (l : Fin 128) : pairNorm y l = headNorm (ownHead y l) (y l) := by
  choose r hr using hy
  have split (f : Fin 128 → EReal) : ∑ j, f j = ∑ j : Fin 64, f ⟨j.val, by omega⟩ + ∑ j : Fin 64, f ⟨64 + j.val, by omega⟩ :=
    Fin.sum_univ_add (a := 64) (b := 64) f
  have low : ∑ j : Fin 128, Scalar.select (IntOp.cmpi .slt (BitVec.ofNat 32 j.val) 64#32) (y j * y j) 0
      = ∑ j : Fin 64, y ⟨j.val, by omega⟩ * y ⟨j.val, by omega⟩ := by
    simp only [select_low]
    rw [split]
    have h0 : ∑ j : Fin 64, (if 64 + j.val < 64 then y ⟨64 + j.val, by omega⟩ * y ⟨64 + j.val, by omega⟩ else (0 : EReal)) = 0 :=
      Finset.sum_eq_zero fun j _ => if_neg (by omega)
    refine (congrArg₂ (· + ·) (Finset.sum_congr rfl fun j _ => if_pos j.isLt) h0).trans (add_zero _)
  have real (o : ℕ) (ho : o + 64 ≤ 128) : ∃ s : ℝ, ∑ j : Fin 64, y ⟨o + j.val, by omega⟩ * y ⟨o + j.val, by omega⟩ = (s : EReal) :=
    fin_sum _ fun j => fin_mul ⟨_, hr _⟩ ⟨_, hr _⟩
  have div64 (a : EReal) : Ideal.div a (Ideal.ofBits .f32 1115684864#32) = a * Ideal.ofBits .f32 1015021568#32 := by
    rw [word_64, word_64th, Ideal.div_coe (by norm_num)]
  unfold pairNorm headNorm
  rw [div64, low, select_low, split]
  obtain ⟨s, hs⟩ := real 0 (by norm_num)
  simp only [Nat.zero_add] at hs
  by_cases h : l.val < 64
  · have e (j : Fin 64) : ownHead y l j = y ⟨j.val, by omega⟩ := by
      unfold ownHead
      congr 2
      omega
    rw [if_pos h]
    simp only [e]
  · have e (j : Fin 64) : ownHead y l j = y ⟨64 + j.val, by omega⟩ := by
      unfold ownHead
      congr 2
      omega
    obtain ⟨t, ht⟩ := real 64 (by norm_num)
    rw [if_neg h]
    simp only [e]
    rw [hs, ht, ← EReal.coe_add, ← EReal.coe_sub, add_sub_cancel_left]

end Cert.InProjSum

end
-- ==== Proof.InProjTile.lean ====
/- One tile of the input projection, entry by entry. -/
module

public import proofs.«01_k».proof.Proof.Gen.InProjIdeal.Frame
public import proofs.«01_k».proof.Proof.InProjSum
public import Idealize.ShloMosaic.Lib.Pipeline.CanonAppend
public import Idealize.ShloMosaic.Lib.Pointwise

@[expose] public section

noncomputable section

namespace Cert.InProjIdeal.Tile

open Cert.InProjIdeal Cert.InProjIdeal.Gen Cert.InProjSum
open Idealize.ShloMosaic Idealize.SL.Sem

variable (x0 : Vec Ideal S512x1024 .f32) (x1 : Vec Ideal S1x1024 .f32) (x2 : Vec Ideal S1024x3840 .bf16) (x3 : Vec Ideal S1x768 .f32)

/-- One row of the tile, projected onto column `c`. -/
def zed (r : Fin 512) (c : Fin 3840) : EReal := proj (fun k => x0 (ix2 r k)) (fun k => x1 (ix2 0 k)) (fun k => x2 (ix2 k c))

/-- What the tile leaves at an index. -/
def made (j : S512x3840.Idx) : EReal := out (zed x0 x1 x2 (j 0)) (fun c => x3 (ix2 0 c)) (j 1)

/-- Two heads side by side, the pair number `t`, of a row of the first 768 columns. -/
def pairAt (Y : FVec Ideal S512x768 .f32) (r : Fin 512) (t : ℕ) (ht : t < 6) (j : Fin 128) : EReal :=
  pairNorm (fun i => Y (ix2 r ⟨128 * t + i.val, by omega⟩)) j

theorem pairAt_congr (Y : FVec Ideal S512x768 .f32) (r : Fin 512) {t t' : ℕ} {ht : t < 6} {ht' : t' < 6} {j j' : Fin 128}
    (h : t = t') (h' : j.val = j'.val) : pairAt Y r t ht j = pairAt Y r t' ht' j' := by
  obtain rfl := h
  obtain rfl := Fin.ext h'
  rfl

theorem pair_0 (a : Vec Ideal S512x1024 .f32) (g : Vec Ideal S1x1024 .f32) (w : Vec Ideal S1024x768 .bf16) (r : Fin 512) (j : Fin 128) :
    k0_pay8 (F := Ideal) (k0_pay6 a g w) (k0_pay7 a g w) (ix2 r j) = pairAt (k0_pay5 a g w) r 0 (by omega) j := by
  pointwise [k0_pay8, k0_pay7, k0_pay6, k0_pay4]
  simp only [pairAt, pairNorm, Nat.mul_zero, Nat.zero_add]
  rfl

variable (Y : FVec Ideal S512x768 .f32)

theorem pair_1 (r : Fin 512) (j : Fin 128) : k0_pay9 (F := Ideal) k0_pay4 Y (ix2 r j) = pairAt Y r 1 (by omega) j := by
  pointwise [k0_pay9, k0_pay4]
  rfl

theorem pair_2 (r : Fin 512) (j : Fin 128) : k0_pay10 (F := Ideal) k0_pay4 Y (ix2 r j) = pairAt Y r 2 (by omega) j := by
  pointwise [k0_pay10, k0_pay4]
  rfl

theorem pair_3 (r : Fin 512) (j : Fin 128) : k0_pay12 (F := Ideal) k0_pay4 (k0_pay11 Y) (ix2 r j) = pairAt Y r 3 (by omega) j := by
  pointwise [k0_pay12, k0_pay11, k0_pay4]
  rfl

theorem pair_4 (r : Fin 512) (j : Fin 128) : k0_pay13 (F := Ideal) k0_pay4 Y (ix2 r j) = pairAt Y r 4 (by omega) j := by
  pointwise [k0_pay13, k0_pay4]
  rfl

set_option maxHeartbeats 1600000 in
/-- The six pairs beside one another, times the gains. -/
theorem pairs (a b c d e : FVec Ideal S512x128 .f32) (g : Vec Ideal S1x768 .f32) (r : Fin 512)
    (ha : ∀ j, a (ix2 r j) = pairAt Y r 0 (by omega) j) (hb : ∀ j, b (ix2 r j) = pairAt Y r 1 (by omega) j)
    (hc : ∀ j, c (ix2 r j) = pairAt Y r 2 (by omega) j) (hd : ∀ j, d (ix2 r j) = pairAt Y r 3 (by omega) j)
    (he : ∀ j, e (ix2 r j) = pairAt Y r 4 (by omega) j) (l : Fin 768) :
    k0_pay16 (F := Ideal) k0_pay4 a b c d e (k0_pay14 Y) (k0_pay15 Y) (Scalar.ofBits .f32 0x00000000#32) g (ix2 r l)
      = pairAt Y r (l.val / 128) (by omega) ⟨l.val % 128, by omega⟩ * g (ix2 0 l) := by
  have hf (j : Fin 128) : Y (ix2 r ⟨640 + j.val, by omega⟩) * Ideal.rsqrt
      (Scalar.select (IntOp.cmpi .slt (BitVec.ofNat 32 j.val) 64#32)
          (∑ x : Fin 128, Scalar.select (IntOp.cmpi .slt (BitVec.ofNat 32 x.val) 64#32)
            (Y (ix2 r ⟨640 + x.val, by omega⟩) * Y (ix2 r ⟨640 + x.val, by omega⟩)) 0)
          (∑ x : Fin 128, Y (ix2 r ⟨640 + x.val, by omega⟩) * Y (ix2 r ⟨640 + x.val, by omega⟩)
            - ∑ x : Fin 128, Scalar.select (IntOp.cmpi .slt (BitVec.ofNat 32 x.val) 64#32)
            (Y (ix2 r ⟨640 + x.val, by omega⟩) * Y (ix2 r ⟨640 + x.val, by omega⟩)) 0)
        * Ideal.ofBits .f32 1015021568#32 + Ideal.ofBits .f32 897988541#32) = pairAt Y r 5 (by omega) j := rfl
  pointwise [k0_pay16, k0_pay4, k0_pay14, k0_pay15]
  refine congrArg (· * g (ix2 0 l)) ?_
  split_ifs
  all_goals try contradiction
  · exact (ha _).trans (pairAt_congr Y r (by omega) (by show l.val = l.val % 128; omega))
  · exact (hb _).trans (pairAt_congr Y r (by omega) (by show l.val - 128 = l.val % 128; omega))
  · exact (hc _).trans (pairAt_congr Y r (by omega) (by show l.val - 128 - 128 = l.val % 128; omega))
  · exact (hd _).trans (pairAt_congr Y r (by omega) (by show l.val - 128 - 128 - 128 = l.val % 128; omega))
  · exact (he _).trans (pairAt_congr Y r (by omega) (by show l.val - 128 - 128 - 128 - 128 = l.val % 128; omega))
  · exact (hf ⟨l.val - 128 - 128 - 128 - 128 - 128, by omega⟩).trans
      (pairAt_congr Y r (by omega) (by show l.val - 128 - 128 - 128 - 128 - 128 = l.val % 128; omega))

/-- An entry of a pair is normalised by its own head. -/
theorem pairAt_eq (r : Fin 512) (hY : ∀ l, Fin' (Y (ix2 r l))) (l : Fin 768) :
    pairAt Y r (l.val / 128) (by omega) ⟨l.val % 128, by omega⟩
      = headNorm (fun j => Y (ix2 r ⟨l.val / 64 * 64 + j.val, by omega⟩)) (Y (ix2 r l)) := by
  unfold pairAt
  rw [pairNorm_eq _ (fun i => hY _)]
  unfold ownHead
  have e1 : (⟨128 * (l.val / 128) + l.val % 128, by omega⟩ : Fin 768) = l := Fin.ext (by show 128 * (l.val / 128) + l.val % 128 = l.val; omega)
  have e2 (j : Fin 64) : (⟨128 * (l.val / 128) + (l.val % 128 / 64 * 64 + j.val), by omega⟩ : Fin 768) = ⟨l.val / 64 * 64 + j.val, by omega⟩ :=
    Fin.ext (by show 128 * (l.val / 128) + (l.val % 128 / 64 * 64 + j.val) = l.val / 64 * 64 + j.val; omega)
  simp only [e1, e2]

/-- The product of the first chunk, entry by entry. -/
theorem first_entry (r : Fin 512) (l : Fin 768) :
    k0_pay5 (F := Ideal) (View.ld x0 r0_0) (View.ld x1 r0_1) (View.ld x2 r0_2) (ix2 r l) = zed x0 x1 x2 r ⟨l.val, by omega⟩ := by
  pointwise [k0_pay5, k0_pay3]
  rfl

/-- The first chunk as it is stored: the queries and keys, normalised. -/
theorem normed_chunk (hx : ∀ (r : Fin 512) (l : Fin 3840), l.val < 768 → Fin' (zed x0 x1 x2 r l)) (r : Fin 512) (l : Fin 768) :
    k0_pay16 (F := Ideal) (k0_pay20 x0 x1 x2 x3)
        (k0_pay8 (k0_pay6 (View.ld x0 r0_0) (View.ld x1 r0_1) (View.ld x2 r0_2)) (k0_pay7 (View.ld x0 r0_0) (View.ld x1 r0_1) (View.ld x2 r0_2)))
        (k0_pay9 (k0_pay20 x0 x1 x2 x3) (k0_pay21 x0 x1 x2 x3)) (k0_pay10 (k0_pay20 x0 x1 x2 x3) (k0_pay21 x0 x1 x2 x3))
        (k0_pay12 (k0_pay20 x0 x1 x2 x3) (k0_pay11 (k0_pay21 x0 x1 x2 x3))) (k0_pay13 (k0_pay20 x0 x1 x2 x3) (k0_pay21 x0 x1 x2 x3))
        (k0_pay14 (k0_pay21 x0 x1 x2 x3)) (k0_pay15 (k0_pay21 x0 x1 x2 x3)) (Scalar.ofBits .f32 0x00000000#32) (View.ld x3 r0_3) (ix2 r l)
      = out (zed x0 x1 x2 r) (fun c => x3 (ix2 0 c)) ⟨l.val, by omega⟩ := by
  have hY (l : Fin 768) : Fin' (k0_pay21 (F := Ideal) x0 x1 x2 x3 (ix2 r l)) := by
    rw [show k0_pay21 (F := Ideal) x0 x1 x2 x3 (ix2 r l) = _ from first_entry x0 x1 x2 r l]
    exact hx _ _ l.isLt
  refine (pairs (k0_pay21 x0 x1 x2 x3) _ _ _ _ _ _ r (pair_0 _ _ _ r) (pair_1 _ r) (pair_2 _ r) (pair_3 _ r) (pair_4 _ r) l).trans ?_
  rw [pairAt_eq _ r hY l]
  have e (l : Fin 768) : k0_pay21 (F := Ideal) x0 x1 x2 x3 (ix2 r l) = zed x0 x1 x2 r ⟨l.val, by omega⟩ := first_entry x0 x1 x2 r l
  simp only [e]
  unfold out headOf
  rw [dif_pos (show l.val < 768 from l.isLt)]
  refine congrArg (headNorm _ _ * ·) ?_
  pointwise []

/-- A column past the first 768 is left as it is. -/
theorem out_past (z : Fin 3840 → EReal) (q : Fin 768 → EReal) (c : Fin 3840) (h : 768 ≤ c.val) : out z q c = z c := dif_neg (by omega)

/-- A chunk that is stored as it is. -/
theorem plain_piece (o : ℕ) (ho : 768 ≤ o) (ho' : o + 768 ≤ 3840) (v : FVec Ideal S512x768 .bf16) (emb : S512x768.Idx → S512x3840.Idx)
    (hv : ∀ (r : Fin 512) (l : Fin 768), v (ix2 r l) = zed x0 x1 x2 r ⟨o + l.val, by omega⟩)
    (h0 : ∀ (r : Fin 512) (l : Fin 768), (emb (ix2 r l) 0).val = 0 + 1 * r.val) (h1 : ∀ (r : Fin 512) (l : Fin 768), (emb (ix2 r l) 1).val = o + 1 * l.val)
    (x : S512x768.Idx) : v x = made x0 x1 x2 x3 (emb x) := by
  obtain ⟨r, l, rfl⟩ : ∃ (r : Fin 512) (l : Fin 768), x = ix2 r l := ⟨x 0, x 1, eq_ix2 x⟩
  have e0 : emb (ix2 r l) 0 = r := Fin.ext ((h0 r l).trans (by omega))
  have e1 : emb (ix2 r l) 1 = (⟨o + l.val, by omega⟩ : Fin 3840) := Fin.ext ((h1 r l).trans (by show o + 1 * l.val = o + l.val; omega))
  unfold made
  rw [e0, e1, hv, out_past _ _ _ (by show 768 ≤ o + l.val; omega)]

/-- What the tile leaves, entry by entry. -/
theorem tile_entry (hx : ∀ (r : Fin 512) (l : Fin 3840), l.val < 768 → Fin' (zed x0 x1 x2 r l)) (y : S512x3840.Idx) :
    out0_4 (F := Ideal) x0 x1 x2 x3 y = made x0 x1 x2 x3 y := by
  unfold out0_4
  refine View.canon_apply_of_pieces (Val := Elt Ideal) (S := S512x3840) (e := .bf16) (made x0 x1 x2 x3) _ ?_ y (cover0_4 _ _ _ _ _ y)
  intro p hp
  simp only [List.mem_cons, List.not_mem_nil, or_false] at hp
  rcases hp with rfl | rfl | rfl | rfl | rfl
  · exact plain_piece x0 x1 x2 x3 3072 (by omega) (by omega) _ r0_12.emb
      (fun r l => by pointwise [k0_pay2, k0_pay19, k0_pay3]; rfl) (fun r l => rfl) (fun r l => rfl)
  · exact plain_piece x0 x1 x2 x3 2304 (by omega) (by omega) _ r0_10.emb
      (fun r l => by pointwise [k0_pay1, k0_pay19, k0_pay3]; rfl) (fun r l => rfl) (fun r l => rfl)
  · exact plain_piece x0 x1 x2 x3 1536 (by omega) (by omega) _ r0_8.emb
      (fun r l => by pointwise [k0_pay18, k0_pay19, k0_pay3]; rfl) (fun r l => rfl) (fun r l => rfl)
  · exact plain_piece x0 x1 x2 x3 768 (by omega) (by omega) _ r0_6.emb
      (fun r l => by pointwise [k0_pay17, k0_pay19, k0_pay3]; rfl) (fun r l => rfl) (fun r l => rfl)
  · refine fun (x : S512x768.Idx) => ?_
    obtain ⟨r, l, rfl⟩ : ∃ (r : Fin 512) (l : Fin 768), x = ix2 r l := ⟨x 0, x 1, eq_ix2 x⟩
    refine (normed_chunk x0 x1 x2 x3 hx r l).trans ?_
    unfold made
    rw [show r0_4.emb (ix2 r l) 0 = r from Fin.ext (by show 0 + 1 * r.val = r.val; omega),
      show r0_4.emb (ix2 r l) 1 = (⟨l.val, by omega⟩ : Fin 3840) from Fin.ext (by show 0 + 1 * l.val = l.val; omega)]

end Cert.InProjIdeal.Tile

end
-- ==== Proof.InProjRef.lean ====
/- The input projection's reference, entry by entry. -/
module

public import proofs.«01_k».proof.Proof.Gen.InProjRefIdeal.Read
public import proofs.«01_k».proof.Proof.InProjSum
public import Idealize.ShloMosaic.Lib.Pointwise

@[expose] public section

noncomputable section

namespace Cert.InProjRefIdeal.Entry

open Cert.InProjRefIdeal Cert.InProjRefIdeal.Read Cert.InProjSum
open Idealize.ShloMosaic Idealize.SL.Sem

variable (x0 : Vec Ideal S16384x1024 .f32) (x1 : Vec Ideal S1x1024 .f32) (x2 : Vec Ideal S1024x3840 .bf16) (x3 : Vec Ideal S1x768 .f32)

/-- One row, projected onto column `c`. -/
def zed (r : Fin 16384) (c : Fin 3840) : EReal := proj (fun k => x0 (ix2 r k)) (fun k => x1 (ix2 0 k)) (fun k => x2 (ix2 k c))

theorem product_entry (r : Fin 16384) (c : Fin 3840) : val_main_v13 (F := Ideal) x0 x1 x2 (ix2 r c) = zed x0 x1 x2 r c := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The reference's entry. -/
theorem entry (r : Fin 16384) (c : Fin 3840) :
    val_main_v33 (F := Ideal) x0 x1 x2 x3 (ix2 r c) = out (zed x0 x1 x2 r) (fun k => x3 (ix2 0 k)) c := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_cst_2, val_main_cst_3, val_main_cst_4]
  simp only [product_entry]
  unfold out headNorm headOf eps
  have e1 (h : c.val / 64 * 64 + c.val % 64 < 3840) : (⟨c.val / 64 * 64 + c.val % 64, h⟩ : Fin 3840) = c := Fin.ext (by show c.val / 64 * 64 + c.val % 64 = c.val; omega)
  split_ifs with h
  case neg => contradiction
  · have e2 (h' : c.val / 64 * 64 + c.val % 64 < 768) : (⟨c.val / 64 * 64 + c.val % 64, h'⟩ : Fin 768) = ⟨c.val, h⟩ := Fin.ext (by show c.val / 64 * 64 + c.val % 64 = c.val; omega)
    simp only [e1, e2]
  · congr 1
    exact Fin.ext (by show 768 + (c.val - 768) = c.val; omega)

end Cert.InProjRefIdeal.Entry

end
-- ==== Proof.InProjArray.lean ====
/- The input projection's result array: what the launch leaves is the reference's term at the same arguments. -/
module

public import proofs.«01_k».proof.Proof.Gen.InProjIdeal.Value
public import proofs.«01_k».proof.Proof.InProjTile
public import proofs.«01_k».proof.Proof.InProjRef
public import Idealize.ShloMosaic.Lib.Pipeline.Value
public import Idealize.ShloMosaic.Lib.Pipeline.Covers

@[expose] public section

noncomputable section

namespace Cert.InProjIdeal.Tile

open Cert.InProjIdeal Cert.InProjIdeal.Gen Cert.InProjSum
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The four arguments. -/
def rows : S16384x1024.Idx → EReal := V m c main_arg0
def gain : S1x1024.Idx → EReal := V m c main_arg1
def weight : S1024x3840.Idx → EReal := V m c main_arg2
def headGain : S1x768.Idx → EReal := V m c main_arg3

/-- The row that row `r` of a tile is. -/
def rowNo (t : Fin cfg0.N) (r : Fin 512) : Fin 16384 :=
  ⟨512 * (grid0.coords t 0).val + r.val, by have h : (grid0.coords t 0).val < 32 := (grid0.coords t 0).isLt; omega⟩

theorem off_tile (i : grid0.Coords) : (BitVec.ofNat 32 (i 0).val).toNat = (i 0).val := by
  have hi : (i 0).val < 32 := (i 0).isLt
  rw [BitVec.toNat_ofNat, Nat.mod_eq_of_lt (by omega)]

/-- The block of rows at a tile. -/
theorem rows_at (t : Fin cfg0.N) (r : Fin 512) (k : Fin 1024) : (iblk m c 0 t : S512x1024.Idx → EReal) (ix2 r k) = rows m c (ix2 (rowNo t r) k) := by
  show rows m c _ = rows m c _
  congr 1
  funext a
  apply Fin.ext
  fin_cases a
  · show (BitVec.ofNat 32 (grid0.coords t 0).val).toNat * 512 + 1 * r.val = 512 * (grid0.coords t 0).val + r.val
    rw [off_tile]
    omega
  · show 0 * 1024 + 1 * k.val = k.val
    omega

/-- The other three arguments are whole at every tile. -/
theorem gain_at (t : Fin cfg0.N) : (iblk m c 1 t : S1x1024.Idx → EReal) = gain m c := by
  funext j
  show gain m c _ = gain m c _
  congr 1
  funext a
  apply Fin.ext
  fin_cases a
  · show 0 * 1 + 1 * (j 0).val = (j 0).val
    omega
  · show 0 * 1024 + 1 * (j 1).val = (j 1).val
    omega

theorem weight_at (t : Fin cfg0.N) : (iblk m c 2 t : S1024x3840.Idx → EReal) = weight m c := by
  funext j
  show weight m c _ = weight m c _
  congr 1
  funext a
  apply Fin.ext
  fin_cases a
  · show 0 * 1024 + 1 * (j 0).val = (j 0).val
    omega
  · show 0 * 3840 + 1 * (j 1).val = (j 1).val
    omega

theorem headGain_at (t : Fin cfg0.N) : (iblk m c 3 t : S1x768.Idx → EReal) = headGain m c := by
  funext j
  show headGain m c _ = headGain m c _
  congr 1
  funext a
  apply Fin.ext
  fin_cases a
  · show 0 * 1 + 1 * (j 0).val = (j 0).val
    omega
  · show 0 * 768 + 1 * (j 1).val = (j 1).val
    omega

/-- The reference's result at the launch's arguments. -/
def want : S16384x3840.Idx → EReal := Cert.InProjRefIdeal.Read.val_main_v33 (F := Ideal) (rows m c) (gain m c) (weight m c) (headGain m c)

variable (hg : ∀ k : Fin 1024, Fin' (gain m c (ix2 0 k))) (hw : ∀ (k : Fin 1024) (l : Fin 3840), l.val < 768 → Fin' (weight m c (ix2 k l)))

include hg hw

/-- What a tile leaves is its block of that result. -/
theorem made_entry (t : Fin cfg0.N) (r : Fin 512) (q : Fin 3840) :
    (out0_4 (F := Ideal) (iblk m c 0 t) (iblk m c 1 t) (iblk m c 2 t) (iblk m c 3 t) : S512x3840.Idx → EReal) (ix2 r q) = want m c (ix2 (rowNo t r) q) := by
  have hr (r : Fin 512) (l : Fin 3840) : zed (iblk m c 0 t) (iblk m c 1 t) (iblk m c 2 t) r l
      = Cert.InProjRefIdeal.Entry.zed (rows m c) (gain m c) (weight m c) (rowNo t r) l := by
    unfold zed Cert.InProjRefIdeal.Entry.zed
    rw [gain_at m c t, weight_at m c t]
    exact congrArg (fun f => proj f _ _) (funext fun k => rows_at m c t r k)
  refine (tile_entry _ _ _ _ (fun r l hl => ?_) (ix2 r q)).trans ?_
  · rw [hr]
    exact fin_proj _ _ _ hg (fun k => hw k l hl)
  · unfold want
    rw [Cert.InProjRefIdeal.Entry.entry]
    unfold made
    rw [headGain_at m c t]
    exact congrArg (fun f => out f _ _) (funext fun l => hr r l)

/-- The launch leaves the reference's result. -/
theorem array_eq : (dats m 0 c).arrAt 4 cfg0.N = want m c := by
  refine (dats m 0 c).arrAt_eq_of_cover 4 (want m c) ?_ ?_
  · intro t _
    rw [Value.flushed4]
    refine funext fun (j : S512x3840.Idx) => ?_
    obtain ⟨r, q, rfl⟩ : ∃ (r : Fin 512) (q : Fin 3840), j = ix2 r q := ⟨j 0, j 1, eq_ix2 j⟩
    refine (made_entry m c hg hw t r q).trans ?_
    show want m c _ = want m c _
    congr 1
    funext a
    apply Fin.ext
    fin_cases a
    · show 512 * (grid0.coords t 0).val + r.val = (BitVec.ofNat 32 (grid0.coords t 0).val).toNat * 512 + 1 * r.val
      rw [off_tile]
      omega
    · show q.val = 0 * 3840 + 1 * q.val
      omega
  · refine fun (i : S16384x3840.Idx) => ?_
    have hi0 : (i 0).val < 16384 := (i 0).isLt
    have hi1 : (i 1).val < 3840 := (i 1).isLt
    obtain ⟨t, ht⟩ := Pipeline.Grid.coords_surjective grid0 (fun a => match a with | ⟨0, _⟩ => ⟨(i 0).val / 512, by show _ < 32; omega⟩)
    refine ⟨t, flush0_4 t, ?_⟩
    have h0 : (grid0.coords t 0).val = (i 0).val / 512 := by rw [ht]
    refine Eq.mpr (congrArg (fun s : Finset S16384x3840.Idx => i ∈ s) (View.set_slice_whole main_v0 ((cfg0.win 4).rect t : Rect S16384x3840))) ?_
    refine Rect.mem_set_unit.mpr fun (a : Fin 2) => ?_
    fin_cases a
    · show (BitVec.ofNat 32 (grid0.coords t 0).val).toNat * 512 ≤ (i 0).val ∧ (i 0).val < (BitVec.ofNat 32 (grid0.coords t 0).val).toNat * 512 + 512
      rw [off_tile, h0]
      omega
    · show 0 * 3840 ≤ (i 1).val ∧ (i 1).val < 0 * 3840 + 3840
      omega

end Cert.InProjIdeal.Tile

end
-- ==== Proof.InProjPre.lean ====
/- The input projection's precondition read back: the norm's gains and the queries' and keys' weights are finite. -/
module

public import proofs.«01_k».proof.Proof.Gen.Pre_weights_finite
public import proofs.«01_k».proof.Proof.InProjSum
public import Idealize.ShloMosaic.Lib.ReduceAll
public import Idealize.ShloMosaic.Lib.StableHlo.Predicate
public import Idealize.ShloMosaic.Lib.Pointwise

@[expose] public section

noncomputable section

namespace Cert.InProjPre

open Idealize.ShloMosaic Cert.InProjSum

instance : Subsingleton (Shape.Idx ⟨0, ![]⟩) := ⟨fun a b => funext fun i => i.elim0⟩

/-- Between the two infinities' words lies a finite number. -/
theorem fin_of_bits (a : EReal)
    (h : IntOp.andi (BitVec.ofBool (decide (a > Ideal.ofBits .f32 0xFF800000#32))) (BitVec.ofBool (decide (a < Ideal.ofBits .f32 0x7F800000#32))) = 1#1) :
    Fin' a := by
  obtain ⟨h0, h1⟩ := IntOp.andi_eq_one.1 h
  rw [StableHlo.Predicate.ofBool_eq_one_iff, decide_eq_true_iff] at h0 h1
  exact fin_of_ne (ne_top_of_lt h1) (ne_bot_of_gt h0)

variable (a0 : FVec Ideal ⟨2, ![16384, 1024]⟩ .f32) (a1 : FVec Ideal ⟨2, ![1, 1024]⟩ .f32) (a2 : FVec Ideal ⟨2, ![1024, 3840]⟩ .bf16)
  (a3 : FVec Ideal ⟨2, ![1, 768]⟩ .f32) (h : Cert.Pre_weights_finite.fn a0 a1 a2 a3 = fun _ => 1#1)

include h

theorem gains (k : Fin 1024) : Fin' (a1 (ix2 0 k)) := by
  have h' := congrFun h (fun i => i.elim0)
  obtain ⟨hg, hw⟩ := IntOp.andi_eq_one.1 h'
  exact fin_of_bits _ (Host.reduce_andi_all _ _ _ _ _ hg (ix2 0 k))

theorem weights (k : Fin 1024) (c : Fin 3840) (hc : c.val < 768) : Fin' (a2 (ix2 k c)) := by
  have h' := congrFun h (fun i => i.elim0)
  obtain ⟨hg, hw⟩ := IntOp.andi_eq_one.1 h'
  have e : ((extractStridedSlice Cert.Pre_weights_finite.S1024x768 ![0, 0] · Cert.Pre_weights_finite.Facts.slices_S1024x3840_S1024x768_0_0) a2) (ix2 k ⟨c.val, hc⟩) = a2 (ix2 k c) := by
    refine congrArg a2 ?_
    funext b
    apply Fin.ext
    fin_cases b <;> simp
  rw [← e]
  exact fin_of_bits _ (Host.reduce_andi_all _ _ _ _ _ hw (ix2 k ⟨c.val, hc⟩))

end Cert.InProjPre

end
-- ==== Proof.ConvSum.lean ====
/- The causal convolution of one position, as arithmetic on extended reals: the gate of its entries, the weighted sum
   of the last 31 of them, the norm over the channels and the gate of what comes out. -/
module

public import Idealize.ShloMosaic.Lib.Pointwise
public import Idealize.ShloMosaic.PureOps.Ideal.Laws
public import proofs.«01_k».proof.Proof.ExpertsSum

@[expose] public section

noncomputable section

namespace Cert.ConvSum

open Idealize.ShloMosaic

/-- An entry through its gate: `a` over one plus the exponential of minus `g`. -/
def gated (a g : EReal) : EReal := Ideal.div a (1 + Ideal.exp (-g))

/-- A product with a reciprocal is a quotient, one plus an exponential never being zero. -/
theorem mul_recip (a g : EReal) : a * Ideal.div 1 (1 + Ideal.exp (-g)) = gated a g := by
  unfold gated Ideal.div
  rw [if_neg (Cert.ExpertsSum.one_add_exp_ne_zero _), if_neg (Cert.ExpertsSum.one_add_exp_ne_zero _), one_mul]

theorem zero_sub' (g : EReal) : 0 - g = -g := by rw [sub_eq_add_neg, zero_add]

/-- The weighted sum of 31 entries, plus the bias. -/
def taps (p w : Fin 31 → EReal) (b : EReal) : EReal := ∑ j, p j * w j + b

/-- The mean of a position's 256 channels. -/
def mean (h : Fin 256 → EReal) : EReal := Ideal.div (∑ k, h k) (Ideal.ofBits .f32 1132462080#32)

/-- The channels brought to mean zero and variance one, times the gain, plus the shift. -/
def normed (h : Fin 256 → EReal) (g b : EReal) (c : Fin 256) : EReal :=
  (h c - mean h) * Ideal.rsqrt (mean (fun k => (h k - mean h) * (h k - mean h)) + Ideal.ofBits .f32 897988541#32) * g + b

/-- One channel of a position's answer. -/
def answer (h : Fin 256 → EReal) (g b : EReal) (c : Fin 256) : EReal := gated (normed h g b c) (normed h g b c)

/-- The bias in front of the 31 terms, summed one after the other. -/
theorem taps_front (p w : Fin 31 → EReal) (b : EReal) :
    b + p 0 * w 0 + p 1 * w 1 + p 2 * w 2 + p 3 * w 3 + p 4 * w 4 + p 5 * w 5 + p 6 * w 6 + p 7 * w 7 + p 8 * w 8 + p 9 * w 9 + p 10 * w 10
      + p 11 * w 11 + p 12 * w 12 + p 13 * w 13 + p 14 * w 14 + p 15 * w 15 + p 16 * w 16 + p 17 * w 17 + p 18 * w 18 + p 19 * w 19
      + p 20 * w 20 + p 21 * w 21 + p 22 * w 22 + p 23 * w 23 + p 24 * w 24 + p 25 * w 25 + p 26 * w 26 + p 27 * w 27 + p 28 * w 28
      + p 29 * w 29 + p 30 * w 30 = taps p w b := by
  unfold taps
  rw [add_comm _ b]
  simp only [Fin.sum_univ_castSucc, Fin.sum_univ_zero, zero_add, ← add_assoc]
  rfl

/-- The bias behind them. -/
theorem taps_behind (p w : Fin 31 → EReal) (b : EReal) :
    p 0 * w 0 + p 1 * w 1 + p 2 * w 2 + p 3 * w 3 + p 4 * w 4 + p 5 * w 5 + p 6 * w 6 + p 7 * w 7 + p 8 * w 8 + p 9 * w 9 + p 10 * w 10
      + p 11 * w 11 + p 12 * w 12 + p 13 * w 13 + p 14 * w 14 + p 15 * w 15 + p 16 * w 16 + p 17 * w 17 + p 18 * w 18 + p 19 * w 19
      + p 20 * w 20 + p 21 * w 21 + p 22 * w 22 + p 23 * w 23 + p 24 * w 24 + p 25 * w 25 + p 26 * w 26 + p 27 * w 27 + p 28 * w 28
      + p 29 * w 29 + p 30 * w 30 + b = taps p w b := by
  unfold taps
  simp only [Fin.sum_univ_castSucc, Fin.sum_univ_zero, zero_add]
  rfl

end Cert.ConvSum

end
-- ==== Proof.ConvTile.lean ====
/- One tile of the causal convolution, entry by entry. -/
module

public import proofs.«01_k».proof.Proof.Gen.ConvIdeal.Frame
public import proofs.«01_k».proof.Proof.ConvSum
public import Idealize.ShloMosaic.Lib.Pipeline.ValueKit.Acc
public import Idealize.ShloMosaic.Lib.WritesUnit
public import Idealize.ShloMosaic.Lib.Pointwise

@[expose] public section

set_option maxRecDepth 16384

noncomputable section

namespace Cert.ConvIdeal.Tile

open Cert.ConvIdeal Cert.ConvIdeal.Gen Cert.ConvSum
open Idealize.ShloMosaic Idealize.ShloMosaic.Tactic Idealize.SL.Sem

/-- What the tile answers, of its 31 shifted windows, the 31 rows of weights, and the three rows of the channels. -/
def told (P : Fin 31 → Vec Ideal S512x256 .f32) (W : Fin 31 → Vec Ideal S1x256 .f32) (cb g b : Vec Ideal S1x256 .f32) : FVec Ideal S512x256 .bf16 :=
  have s10 : FVec Ideal S512x256 .f32 := k0_pay10 (k0_pay8 (k0_pay7 (k0_pay6 (k0_pay4 cb (P 0) (W 0) (P 1) (W 1)) (P 2) (k0_pay5 (W 2)) (P 3) (W 3) (P 4) (W 4)
      (P 5) (W 5) (P 6) (W 6) (P 7) (W 7) (P 8) (W 8)) (P 9) (W 9) (P 10) (W 10) (P 11) (W 11) (P 12) (W 12) (P 13) (W 13) (P 14) (W 14)
      (P 15) (W 15)) (P 16) (W 16) (P 17) (W 17) (P 18) (W 18) (P 19) (W 19) (P 20) (W 20) (P 21) (W 21)) (P 22) (k0_pay9 (W 22)) (P 23) (W 23)
      (P 24) (W 24) (P 25) (W 25) (P 26) (W 26) (P 27) (W 27) (P 28) (W 28)
  k0_pay1 (k0_pay12 s10 (P 29) (W 29) (P 30) (W 30) g b) (k0_pay13 s10 (P 29) (W 29) (P 30) (W 30) g b) k0_pay14

variable (P : Fin 31 → Vec Ideal S512x256 .f32) (W : Fin 31 → Vec Ideal S1x256 .f32) (cb g b : Vec Ideal S1x256 .f32)

/-- The norm and the gate, of any sum that lacks its last two terms. -/
theorem last_steps (s : FVec Ideal S512x256 .f32) (p q : Vec Ideal S512x256 .f32) (u v : Vec Ideal S1x256 .f32) (r : Fin 512) (c : Fin 256) :
    k0_pay1 (F := Ideal) (k0_pay12 s p u q v g b) (k0_pay13 s p u q v g b) k0_pay14 (ix2 r c)
      = answer (fun k => s (ix2 r k) + p (ix2 r k) * u (ix2 0 k) + q (ix2 r k) * v (ix2 0 k)) (g (ix2 0 c)) (b (ix2 0 c)) c := by
  pointwise [k0_pay1, k0_pay12, k0_pay13, k0_pay14]
  rw [zero_sub']
  rfl

theorem told_entry (r : Fin 512) (c : Fin 256) : told P W cb g b (ix2 r c)
    = answer (fun k => taps (fun j => P j (ix2 r k)) (fun j => W j (ix2 0 k)) (cb (ix2 0 k))) (g (ix2 0 c)) (b (ix2 0 c)) c := by
  refine (last_steps g b _ _ _ _ _ r c).trans (congrArg (fun f => answer f _ _ c) (funext fun k => ?_))
  rw [← taps_front]
  pointwise [k0_pay10, k0_pay8, k0_pay7, k0_pay6, k0_pay4, k0_pay5, k0_pay9]

/-- The tile's own rows, gated. -/
theorem gate_entry (x : Vec Ideal S512x512 .bf16) (r : Fin 512) (c : Fin 256) :
    k0_pay3 (F := Ideal) x (ix2 r c) = gated (x (ix2 r ⟨c.val, by omega⟩)) (x (ix2 r ⟨256 + c.val, by omega⟩)) := by
  pointwise [k0_pay3]
  rw [zero_sub']
  rfl

theorem inb_window (j : Fin 31) (a : Fin 2) : (![2 + j.val, 0] : Fin 2 → ℕ) a + (![512, 256] : Fin 2 → ℕ) a ≤ (![544, 256] : Fin 2 → ℕ) a := by
  fin_cases a
  · show 2 + j.val + 512 ≤ 544
    omega
  · exact le_rfl

theorem inb_weight (j : Fin 31) (a : Fin 2) : (![j.val, 0] : Fin 2 → ℕ) a + (![1, 256] : Fin 2 → ℕ) a ≤ (![31, 256] : Fin 2 → ℕ) a := by
  fin_cases a
  · show j.val + 1 ≤ 31
    omega
  · exact le_rfl

/-- The window that term `j` of the sum reads from the rows held: it begins two rows and `j` below the top. -/
def window (S : Vec Ideal S544x256 .f32) (j : Fin 31) : Vec Ideal S512x256 .f32 :=
  View.ld S (Rect.unit (s := S544x256) ![2 + j.val, 0] ![512, 256] (inb_window j))

/-- Row `j` of the weights. -/
def weightRow (w : Vec Ideal S31x256 .f32) (j : Fin 31) : Vec Ideal S1x256 .f32 :=
  View.ld w (Rect.unit (s := S31x256) ![j.val, 0] ![1, 256] (inb_weight j))

/-- The rows held: 32 from before, then the tile's own 512. -/
def held (before own : ℕ → Fin 256 → EReal) : Vec Ideal S544x256 .f32 := fun y =>
  if (y 0).val < 32 then before (y 0).val (y 1) else own ((y 0).val - 32) (y 1)

/-- The rows a buffer holds, by their number. -/
def kept (v : Vec Ideal S544x256 .f32) (p : ℕ) (c : Fin 256) : EReal := if h : p < 544 then v (ix2 ⟨p, h⟩ c) else 0

/-- A tile's own rows, gated. -/
def own (x : Vec Ideal S512x512 .bf16) (r : ℕ) (c : Fin 256) : EReal :=
  if h : r < 512 then gated (x (ix2 ⟨r, h⟩ ⟨c.val, by omega⟩)) (x (ix2 ⟨r, h⟩ ⟨256 + c.val, by omega⟩)) else 0

theorem own_eq (x : Vec Ideal S512x512 .bf16) (y : S512x256.Idx) : k0_pay3 (F := Ideal) x y = own x (y 0).val (y 1) := by
  obtain ⟨r, c, rfl⟩ : ∃ (r : Fin 512) (c : Fin 256), y = ix2 r c := ⟨y 0, y 1, eq_ix2 y⟩
  rw [gate_entry]
  unfold own
  show _ = if h : r.val < 512 then _ else _
  rw [dif_pos r.isLt]
  rfl

section Runs

variable (d : Dev nD) (i : grid0.Coords) (arg2 : Memref sig .tc .vmem S512x512 .bf16) (harg2 : arg2.IsWhole)
  (arg3 : Memref sig .tc .vmem S31x256 .f32) (harg3 : arg3.IsWhole) (arg4 : Memref sig .tc .vmem S1x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S512x256 .bf16) (harg7 : arg7.IsWhole) (arg8 : Memref sig .tc .vmem S544x256 .f32) (harg8 : arg8.IsWhole)
  (x0 : Vec Ideal S512x512 .bf16) (x1 : Vec Ideal S31x256 .f32) (x2 x3 x4 : Vec Ideal S1x256 .f32) (xs0 : Vec Ideal S544x256 .f32)

/-- Where the tile's own rows are the last ones stored, they are what is read. -/
theorem read_own (f : arg8.view.ty.Contents (Elt Ideal)) (L : List (View.Piece (Elt Ideal) S544x256 .f32)) (y : S544x256.Idx) (h : 32 ≤ (y 0).val) :
    View.read (Elt Ideal) arg8.view (arg8.view.writes (Elt Ideal) f (⟨Rect.unit ![32, 0] ![512, 256] inb_S544x256_S512x256_32_0, k0_pay3 x0⟩ :: L)) y
      = own x0 ((y 0).val - 32) (y 1) := by
  have hy : (y 0).val < 544 := (y 0).isLt
  have hx : (y 0).val - 32 < 512 := by omega
  refine (View.read_writes_cons_rows_of_mem arg8.view f inb_S544x256_S512x256_32_0 (k0_pay3 x0) L y (ix2 (⟨(y 0).val - 32, hx⟩ : Fin 512) (y 1)) rfl
    (by show (y 0).val = 32 + ((y 0).val - 32); omega) rfl).trans ?_
  exact own_eq x0 _

/-- Above them is what was there before. -/
theorem read_before (f : arg8.view.ty.Contents (Elt Ideal)) (L : List (View.Piece (Elt Ideal) S544x256 .f32)) (y : S544x256.Idx) (h : (y 0).val < 32) :
    View.read (Elt Ideal) arg8.view (arg8.view.writes (Elt Ideal) f (⟨Rect.unit ![32, 0] ![512, 256] inb_S544x256_S512x256_32_0, k0_pay3 x0⟩ :: L)) y
      = View.read (Elt Ideal) arg8.view (arg8.view.writes (Elt Ideal) f L) y :=
  View.read_writes_cons_rows_of_not_mem arg8.view f inb_S544x256_S512x256_32_0 (k0_pay3 x0) L y rfl rfl (Or.inl h)

theorem held_later : View.read (Elt Ideal) arg8.view (arg8.view.writes (Elt Ideal) (harg8.unread xs0)
    [⟨Rect.unit ![32, 0] ![512, 256] inb_S544x256_S512x256_32_0, k0_pay3 x0⟩]) = held (kept xs0) (own x0) := by
  refine funext fun (y : S544x256.Idx) => ?_
  unfold held
  by_cases h : (y 0).val < 32
  · unfold kept
    rw [if_pos h, dif_pos (show (y 0).val < 544 by omega), read_before _ _ _ _ _ h, View.writes_nil, harg8.read_unread]
    exact congrArg xs0 (eq_ix2 y)
  · rw [if_neg h]
    exact read_own _ _ _ _ _ (Nat.le_of_not_lt h)

include arg8 in
theorem held_first (y : S544x256.Idx) : View.canon (Val := Elt Ideal) (s := S544x256) (e := .f32)
    [⟨Rect.unit ![32, 0] ![512, 256] inb_S544x256_S512x256_32_0, k0_pay3 x0⟩,
      ⟨Rect.unit ![0, 0] ![32, 256] inb_S544x256_S32x256_0_0, k0_pay2 (F := Ideal)⟩] y = held (fun _ _ => 0) (own x0) y := by
  rw [← View.read_writes_junk_apply_eq_canon arg8.view]
  unfold held
  split_ifs with h
  · rw [read_before _ _ _ _ _ h]
    refine (View.read_writes_cons_rows_of_mem (Val := Elt Ideal) arg8.view _ inb_S544x256_S32x256_0_0 (k0_pay2 (F := Ideal)) [] y (ix2 (⟨(y 0).val, h⟩ : Fin 32) (y 1)) rfl
      (Nat.zero_add _).symm rfl).trans ?_
    pointwise [k0_pay2]
  · exact read_own _ _ _ _ _ (Nat.le_of_not_lt h)

theorem window_last (b : ℕ → Fin 256 → EReal) : window (held b (own x0)) 30 = k0_pay3 x0 := by
  funext y
  refine Eq.trans ?_ (own_eq x0 y).symm
  show (if 32 + 1 * (y 0).val < 32 then _ else own x0 (32 + 1 * (y 0).val - 32) _) = _
  rw [if_neg (by omega), show 32 + 1 * (y 0).val - 32 = (y 0).val by omega]
  exact congrArg (own x0 _) (Fin.ext (by show 0 + 1 * (y 1).val = (y 1).val; omega))

theorem out_later (hc0 : ¬cond0_0 i) :
    out0_B_5 d i arg2 harg2 arg3 harg3 arg4 harg4 arg5 harg5 arg6 harg6 arg7 harg7 arg8 harg8 hc0 x0 x1 x2 x3 x4 xs0
      = told (window (held (kept xs0) (own x0))) (weightRow x1) x2 x3 x4 := by
  frame_out
  rw [held_later, View.readCov_cons_toLoadRect, ← window_last x0 (kept xs0)]
  rfl

theorem out_first (hc0 : cond0_0 i) :
    out0_A_5 d i arg2 harg2 arg3 harg3 arg4 harg4 arg5 harg5 arg6 harg6 arg7 harg7 arg8 harg8 hc0 x0 x1 x2 x3 x4
      = told (window (held (fun _ _ => 0) (own x0))) (weightRow x1) x2 x3 x4 := by
  frame_out
  simp only [View.readCov_eq_canon', held_first arg8]
  rfl

/-- The tile's last 32 rows, read back. -/
theorem last_rows (L : List (View.Piece (Elt Ideal) S544x256 .f32)) (p : Fin 32) (c : Fin 256) :
    k0_pay11 (F := Ideal) (arg8.view.readCov (⟨Rect.unit ![32, 0] ![512, 256] inb_S544x256_S512x256_32_0, k0_pay3 x0⟩ :: L)
      (Rect.unit (s := S544x256) ![512, 0] ![32, 256] inb_S544x256_S32x256_512_0).toLoadRect) (ix2 p c) = own x0 (480 + p.val) c := by
  rw [View.readCov_eq_canon']
  pointwise [k0_pay11]
  rw [← View.read_writes_junk_apply_eq_canon arg8.view]
  refine (read_own arg8 x0 _ L _ ?_).trans ?_
  · show 32 ≤ 512 + p.val
    omega
  · show own x0 (512 + p.val - 32) c = _
    rw [show 512 + p.val - 32 = 480 + p.val by omega]

include arg8 in
/-- What is stored last over the first 32 rows is what is left in them. -/
theorem read_top (w : Vec Ideal S32x256 .f32) (L : List (View.Piece (Elt Ideal) S544x256 .f32)) (p : Fin 32) (c : Fin 256) :
    View.canon (Val := Elt Ideal) (s := S544x256) (e := .f32) (⟨Rect.unit ![0, 0] ![32, 256] inb_S544x256_S32x256_0_0, w⟩ :: L)
      (ix2 (⟨p.val, by omega⟩ : Fin 544) c) = w (ix2 p c) := by
  rw [← View.read_writes_junk_apply_eq_canon arg8.view]
  exact View.read_writes_cons_rows_of_mem arg8.view _ inb_S544x256_S32x256_0_0 w L _ (ix2 p c) rfl (Nat.zero_add _).symm rfl

theorem left_later (hc0 : ¬cond0_0 i) (p : Fin 32) (c : Fin 256) :
    sout0_B_0 d i arg2 harg2 arg3 harg3 arg4 harg4 arg5 harg5 arg6 harg6 arg7 harg7 arg8 harg8 hc0 x0 x1 x2 x3 x4 xs0 (ix2 ⟨p.val, by omega⟩ c)
      = own x0 (480 + p.val) c := by
  frame_out
  exact (read_top arg8 _ _ p c).trans (last_rows arg8 x0 _ p c)

theorem left_first (hc0 : cond0_0 i) (p : Fin 32) (c : Fin 256) :
    sout0_A_0 d i arg2 harg2 arg3 harg3 arg4 harg4 arg5 harg5 arg6 harg6 arg7 harg7 arg8 harg8 hc0 x0 x1 x2 x3 x4 (ix2 ⟨p.val, by omega⟩ c)
      = own x0 (480 + p.val) c := by
  frame_out
  exact (read_top arg8 _ _ p c).trans (last_rows arg8 x0 _ p c)

end Runs

end Cert.ConvIdeal.Tile

end
-- ==== Proof.ConvRef.lean ====
/- The causal convolution's reference, entry by entry. -/
module

public import proofs.«01_k».proof.Proof.Gen.ConvRefIdeal.Read
public import proofs.«01_k».proof.Proof.ConvSum
public import Idealize.ShloMosaic.Lib.Pointwise

@[expose] public section

set_option maxRecDepth 16384

noncomputable section

namespace Cert.ConvRefIdeal.Entry

open Cert.ConvRefIdeal Cert.ConvRefIdeal.Read Cert.ConvSum
open Idealize.ShloMosaic Idealize.SL.Sem

variable (x0 : Vec Ideal S16384x3840 .bf16) (x1 : Vec Ideal S31x256 .f32) (x2 x3 x4 : Vec Ideal S1x256 .f32)

/-- One position's channel through its gate, the position numbered through all four sequences. -/
def gatedAt (q : ℕ) (c : Fin 256) : EReal :=
  if h : q < 16384 then gated (x0 (ix2 ⟨q, h⟩ ⟨3072 + c.val, by omega⟩)) (x0 (ix2 ⟨q, h⟩ ⟨3328 + c.val, by omega⟩)) else 0

/-- What term `j` of the sum reads at row `q`: the position 30 places back and `j` forward, or zero before the sequence begins. -/
def past (q : ℕ) (c : Fin 256) (j : Fin 31) : EReal := if q % 4096 + j.val < 30 then 0 else gatedAt x0 (q + j.val - 30) c

theorem past_entry (s : Fin 4) (q : Fin 4126) (c : Fin 256) :
    val_main_v13 (F := Ideal) x0 (ix3 s q c) = if q.val < 30 then 0 else gatedAt x0 (4096 * s.val + (q.val - 30)) c := by
  pointwise [val_main_v13, val_main_v12, val_main_cst_1, val_main_v11, val_main_v10, val_main_v9, val_main_cst_0, val_main_v8, val_main_v7, val_main_cst,
    val_main_v6, val_main_v5, val_main_v4, val_main_v3, val_main_v2, val_main_v1, val_main_v0]
  by_cases h : q.val < 30
  · rw [dif_pos h, if_pos h]
  · rw [dif_neg h, if_neg h, mul_recip]
    unfold gatedAt
    rw [dif_pos (show 4096 * s.val + (q.val - 30) < 16384 by omega)]
    simp only [Nat.mul_comm s.val 4096, ← Nat.add_assoc]

theorem sum_entry (s : Fin 4) (q : Fin 4096) (c : Fin 256) :
    val_main_v235 (F := Ideal) x0 x1 x2 (ix3 s q c)
      = taps (past x0 (4096 * s.val + q.val) c) (fun j => x1 (ix2 j c)) (x2 (ix2 0 c)) := by
  rw [← taps_behind]
  pointwise [val_main_v235, val_main_v234, val_main_v233, val_main_v232, val_main_v231, val_main_v230, val_main_v229, val_main_v228, val_main_v227,
    val_main_v226, val_main_v225, val_main_v224, val_main_v223, val_main_v222, val_main_v221, val_main_v220, val_main_v219, val_main_v218,
    val_main_v217, val_main_v216, val_main_v215, val_main_v214, val_main_v213, val_main_v212, val_main_v211, val_main_v210, val_main_v209,
    val_main_v208, val_main_v207, val_main_v206, val_main_v205, val_main_v204, val_main_v203, val_main_v202, val_main_v201, val_main_v200,
    val_main_v199, val_main_v198, val_main_v197, val_main_v196, val_main_v195, val_main_v194, val_main_v193, val_main_v192, val_main_v191,
    val_main_v190, val_main_v189, val_main_v188, val_main_v187, val_main_v186, val_main_v185, val_main_v184, val_main_v183, val_main_v182,
    val_main_v181, val_main_v180, val_main_v179, val_main_v178, val_main_v177, val_main_v176, val_main_v175, val_main_v174, val_main_v173,
    val_main_v172, val_main_v171, val_main_v170, val_main_v169, val_main_v168, val_main_v167, val_main_v166, val_main_v165, val_main_v164,
    val_main_v163, val_main_v162, val_main_v161, val_main_v160, val_main_v159, val_main_v158, val_main_v157, val_main_v156, val_main_v155,
    val_main_v154, val_main_v153, val_main_v152, val_main_v151, val_main_v150, val_main_v149, val_main_v148, val_main_v147, val_main_v146,
    val_main_v145, val_main_v144, val_main_v143, val_main_v142, val_main_v141, val_main_v140, val_main_v139, val_main_v138, val_main_v137,
    val_main_v136, val_main_v135, val_main_v134, val_main_v133, val_main_v132, val_main_v131, val_main_v130, val_main_v129, val_main_v128,
    val_main_v127, val_main_v126, val_main_v125, val_main_v124, val_main_v123, val_main_v122, val_main_v121, val_main_v120, val_main_v119,
    val_main_v118, val_main_v117, val_main_v116, val_main_v115, val_main_v114, val_main_v113, val_main_v112, val_main_v111, val_main_v110,
    val_main_v109, val_main_v108, val_main_v107, val_main_v106, val_main_v105, val_main_v104, val_main_v103, val_main_v102, val_main_v101,
    val_main_v100, val_main_v99, val_main_v98, val_main_v97, val_main_v96, val_main_v95, val_main_v94, val_main_v93, val_main_v92, val_main_v91,
    val_main_v90, val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_cst_2, val_main_v19, val_main_v18, val_main_v17, val_main_v16, val_main_v15, val_main_v14]
  have key (n : ℕ) (hn : n < 31) (h : n + q.val < 4126) : val_main_v13 (F := Ideal) x0 (ix3 s ⟨n + q.val, h⟩ c) = past x0 (4096 * s.val + q.val) c ⟨n, hn⟩ := by
    rw [past_entry]
    unfold past
    have hq : (4096 * s.val + q.val) % 4096 = q.val := by omega
    rw [hq]
    by_cases h' : n + q.val < 30
    · rw [if_pos h', if_pos (show q.val + n < 30 by omega)]
    · rw [if_neg h', if_neg (show ¬q.val + n < 30 by omega)]
      congr 1
      show 4096 * s.val + (n + q.val - 30) = 4096 * s.val + q.val + n - 30
      omega
  have key0 (h : q.val < 4126) : val_main_v13 (F := Ideal) x0 (ix3 s ⟨q.val, h⟩ c) = past x0 (4096 * s.val + q.val) c 0 :=
    Eq.trans (congrArg (fun v => val_main_v13 (F := Ideal) x0 (ix3 s v c)) (Fin.ext (Nat.zero_add _).symm)) (key 0 (by omega) (by omega))
  simp (discharger := omega) only [key0, key]
  rfl

theorem entry (q : Fin 16384) (c : Fin 256) : val_main_v264 (F := Ideal) x0 x1 x2 x3 x4 (ix2 q c)
    = answer (fun k => taps (past x0 q.val k) (fun j => x1 (ix2 j k)) (x2 (ix2 0 k))) (x3 (ix2 0 c)) (x4 (ix2 0 c)) c := by
  pointwise [val_main_v264, val_main_v263, val_main_v262, val_main_call0_v5, val_main_call0_v4, val_main_call0_cst_0, val_main_call0_v3, val_main_call0_v2,
    val_main_call0_cst, val_main_call0_v1, val_main_call0_v0, val_main_v261, val_main_v260, val_main_v259, val_main_v258, val_main_v257,
    val_main_v256, val_main_v255, val_main_v254, val_main_v253, val_main_v252, val_main_v251, val_main_v250, val_main_v249, val_main_cst_7,
    val_main_v248, val_main_v247, val_main_v246, val_main_v245, val_main_cst_6, val_main_v244, val_main_v243, val_main_cst_5, val_main_v242,
    val_main_v241, val_main_v240, val_main_v239, val_main_v238, val_main_cst_4, val_main_v237, val_main_v236, val_main_cst_3]
  rw [mul_recip]
  simp only [sum_entry, show 4096 * (q.val / 4096) + q.val % 4096 = q.val by omega]
  rfl

end Cert.ConvRefIdeal.Entry

end
-- ==== Proof.ConvArray.lean ====
/- The causal convolution's result array: what the launch leaves is the reference's term at the same arguments. -/
module

public import proofs.«01_k».proof.Proof.Gen.ConvIdeal.Value
public import proofs.«01_k».proof.Proof.ConvTile
public import proofs.«01_k».proof.Proof.ConvRef
public import Idealize.ShloMosaic.Lib.Pipeline.Value
public import Idealize.ShloMosaic.Lib.Pipeline.Covers

@[expose] public section

set_option maxHeartbeats 4000000

noncomputable section

namespace Cert.ConvIdeal.Tile

open Cert.ConvIdeal Cert.ConvIdeal.Gen Cert.ConvSum
open Idealize.ShloMosaic Idealize.ShloMosaic.TcCoe Idealize.SL.Sem
open Idealize.ShloMosaic.Pipeline (Dat Cfg Window)
open Cert.ConvRefIdeal.Entry (gatedAt past)

variable (m : (ℓ : Loc nD τ sig) → Buf (Elt Ideal) ℓ) (c : Dev nD)

/-- The five arguments. -/
def input : S16384x3840.Idx → EReal := V m c main_arg0
def weight : S31x256.Idx → EReal := V m c main_arg1
def bias : S1x256.Idx → EReal := V m c main_arg2
def gain : S1x256.Idx → EReal := V m c main_arg3
def shift : S1x256.Idx → EReal := V m c main_arg4

theorem tile_place : ∀ t : Fin cfg0.N, win0_0.index t (0 : Fin 2) = t.val ∧ win0_0.index t (1 : Fin 2) = 6 :=
  (by decide +kernel : ∀ t : Fin grid0.N, _)

theorem answer_place : ∀ t : Fin cfg0.N, win0_5.index t (0 : Fin 2) = t.val ∧ win0_5.index t (1 : Fin 2) = 0 :=
  (by decide +kernel : ∀ t : Fin grid0.N, _)

theorem points (t : Fin cfg0.N) : t.val < 32 := lt_of_lt_of_eq t.isLt N_0

/-- The row that row `r` of a tile is. -/
def rowNo (t : Fin cfg0.N) (r : Fin 512) : Fin 16384 := ⟨512 * t.val + r.val, by have h := points t; omega⟩

/-- The block of the input at a tile. -/
theorem input_at (t : Fin cfg0.N) (r k : Fin 512) :
    (X0_0 m c t : S512x512.Idx → EReal) (ix2 r k) = input m c (ix2 (rowNo t r) ⟨3072 + k.val, by omega⟩) := by
  obtain ⟨h0, h1⟩ := tile_place t
  unfold X0_0 Pipeline.Window.fill
  rw [dif_pos (moved0_0 t _)]
  show input m c _ = input m c _
  congr 1
  funext a
  apply Fin.ext
  fin_cases a
  · show win0_0.index t (0 : Fin 2) * 512 + 1 * r.val = 512 * t.val + r.val
    rw [h0]
    omega
  · show win0_0.index t (1 : Fin 2) * 512 + 1 * k.val = 3072 + k.val
    rw [h1]
    omega

/-- The other four arguments are whole at every tile. -/
theorem weight_at (t : Fin cfg0.N) : (iblk m c 1 t : S31x256.Idx → EReal) = weight m c := by
  funext j
  show weight m c _ = weight m c _
  congr 1
  funext a
  apply Fin.ext
  fin_cases a
  · show 0 * 31 + 1 * (j 0).val = (j 0).val
    omega
  · show 0 * 256 + 1 * (j 1).val = (j 1).val
    omega

theorem bias_at (t : Fin cfg0.N) : (iblk m c 2 t : S1x256.Idx → EReal) = bias m c := by
  funext j
  show bias m c _ = bias m c _
  congr 1
  funext a
  apply Fin.ext
  fin_cases a
  · show 0 * 1 + 1 * (j 0).val = (j 0).val
    omega
  · show 0 * 256 + 1 * (j 1).val = (j 1).val
    omega

theorem gain_at (t : Fin cfg0.N) : (iblk m c 3 t : S1x256.Idx → EReal) = gain m c := by
  funext j
  show gain m c _ = gain m c _
  congr 1
  funext a
  apply Fin.ext
  fin_cases a
  · show 0 * 1 + 1 * (j 0).val = (j 0).val
    omega
  · show 0 * 256 + 1 * (j 1).val = (j 1).val
    omega

theorem shift_at (t : Fin cfg0.N) : (iblk m c 4 t : S1x256.Idx → EReal) = shift m c := by
  funext j
  show shift m c _ = shift m c _
  congr 1
  funext a
  apply Fin.ext
  fin_cases a
  · show 0 * 1 + 1 * (j 0).val = (j 0).val
    omega
  · show 0 * 256 + 1 * (j 1).val = (j 1).val
    omega

/-- A tile's own rows are the positions it covers. -/
theorem own_at (t : Fin cfg0.N) (p : ℕ) (hp : p < 512) (k : Fin 256) : own (X0_0 m c t) p k = gatedAt (input m c) (512 * t.val + p) k := by
  have ht := points t
  unfold own gatedAt
  rw [dif_pos hp, dif_pos (show 512 * t.val + p < 16384 by omega)]
  refine congr (congrArg gated (input_at m c t ⟨p, hp⟩ ⟨k.val, by omega⟩)) ((input_at m c t ⟨p, hp⟩ ⟨256 + k.val, by omega⟩).trans ?_)
  show input m c _ = input m c _
  congr 1
  exact congrArg (ix2 _) (Fin.ext (by show 3072 + (256 + k.val) = 3328 + k.val; omega))

/-- What the first 32 rows hold when a tile begins: nothing at a sequence's first tile, the tile before's last 32 rows after. -/
def Fits (t : Fin cfg0.N) (before : ℕ → Fin 256 → EReal) : Prop :=
  ∀ p, p < 32 → ∀ k, before p k = if t.val % 8 = 0 then 0 else gatedAt (input m c) (512 * t.val + p - 32) k

/-- Then every window reads the positions its term is of. -/
theorem window_at (t : Fin cfg0.N) (before : ℕ → Fin 256 → EReal) (hb : Fits m c t before) (j : Fin 31) (r : Fin 512) (k : Fin 256) :
    window (held before (own (X0_0 m c t))) j (ix2 r k) = past (input m c) (512 * t.val + r.val) k j := by
  have ht := points t
  have hk : (⟨0 + 1 * k.val, by omega⟩ : Fin 256) = k := Fin.ext (by show 0 + 1 * k.val = k.val; omega)
  show (if 2 + j.val + 1 * r.val < 32 then before (2 + j.val + 1 * r.val) ⟨0 + 1 * k.val, _⟩ else own (X0_0 m c t) (2 + j.val + 1 * r.val - 32) ⟨0 + 1 * k.val, _⟩) = _
  rw [hk]
  unfold past
  by_cases h : 2 + j.val + 1 * r.val < 32
  · rw [if_pos h, hb _ h]
    by_cases h8 : t.val % 8 = 0
    · rw [if_pos h8, if_pos (by omega)]
    · rw [if_neg h8, if_neg (by omega)]
      exact congrArg (fun n => gatedAt (input m c) n k) (by omega)
  · rw [if_neg h, own_at m c t _ (by omega), if_neg (by omega)]
    exact congrArg (fun n => gatedAt (input m c) n k) (by omega)

/-- The reference's result at the launch's arguments. -/
def want : S16384x256.Idx → EReal :=
  Cert.ConvRefIdeal.Read.val_main_v264 (F := Ideal) (input m c) (weight m c) (bias m c) (gain m c) (shift m c)

/-- So a tile's answer is its block of that result. -/
theorem told_at (t : Fin cfg0.N) (before : ℕ → Fin 256 → EReal) (hb : Fits m c t before) (r : Fin 512) (q : Fin 256) :
    told (window (held before (own (X0_0 m c t)))) (weightRow (iblk m c 1 t)) (iblk m c 2 t) (iblk m c 3 t) (iblk m c 4 t) (ix2 r q)
      = want m c (ix2 (rowNo t r) q) := by
  rw [told_entry, bias_at m c t, gain_at m c t, shift_at m c t]
  unfold want
  rw [Cert.ConvRefIdeal.Entry.entry]
  refine congrArg (fun f => answer f _ _ q) (funext fun k => ?_)
  refine congrArg₂ (fun f g => taps f g _) (funext fun j => window_at m c t before hb j r k) (funext fun j => ?_)
  rw [weight_at m c t]
  show weight m c _ = weight m c _
  congr 1
  funext a
  apply Fin.ext
  fin_cases a
  · show j.val + 1 * 0 = j.val
    omega
  · show 0 + 1 * k.val = k.val
    omega

/-- What a tile leaves for the next one: its last 32 rows. -/
theorem left_at (t : Fin cfg0.N) (p : Fin 32) (k : Fin 256) : (outsAt0 m c t.val t.isLt).2 (ix2 ⟨p.val, by omega⟩ k) = own (X0_0 m c t) (480 + p.val) k := by
  by_cases h : t.val % 8 = 0
  · rw [outsAt0_A m c t h]
    exact left_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (iblk m c 4 t) ((hcond0_0 t).mpr h) p k
  · rw [outsAt0_B m c t h]
    exact left_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (iblk m c 4 t) ((outsAt0 m c (t.val - 1) (Nat.lt_of_le_of_lt (Nat.sub_le _ _) t.isLt)).2) (fun h' => h ((hcond0_0 t).mp h')) p k

/-- What a later tile finds. -/
theorem fits_later (t : Fin cfg0.N) (h : ¬t.val % 8 = 0) : Fits m c t (kept (outsAt0 m c (t.val - 1) (Nat.lt_of_le_of_lt (Nat.sub_le _ _) t.isLt)).2) := by
  intro p hp k
  rw [if_neg h]
  unfold kept
  rw [dif_pos (show p < 544 by omega)]
  refine (left_at m c ⟨t.val - 1, Nat.lt_of_le_of_lt (Nat.sub_le _ _) t.isLt⟩ ⟨p, hp⟩ k).trans ?_
  rw [own_at m c _ _ (show 480 + p < 512 by omega)]
  exact congrArg (fun n => gatedAt (input m c) n k) (by show 512 * (t.val - 1) + (480 + p) = 512 * t.val + p - 32; omega)

theorem fits_first (t : Fin cfg0.N) (h : t.val % 8 = 0) : Fits m c t (fun _ _ => 0) := fun _ _ _ => (if_pos h).symm

/-- What a tile leaves in the result is its block of the reference's. -/
theorem made_entry (t : Fin cfg0.N) (r : Fin 512) (q : Fin 256) : (outsAt0 m c t.val t.isLt).1 (ix2 r q) = want m c (ix2 (rowNo t r) q) := by
  by_cases h : t.val % 8 = 0
  · rw [outsAt0_A m c t h]
    refine (congrFun (out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (iblk m c 4 t) ((hcond0_0 t).mpr h)) (ix2 r q)).trans ?_
    exact told_at m c t _ (fits_first m c t h) r q
  · rw [outsAt0_B m c t h]
    refine (congrFun (out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (iblk m c 4 t) ((outsAt0 m c (t.val - 1) (Nat.lt_of_le_of_lt (Nat.sub_le _ _) t.isLt)).2) (fun h' => h ((hcond0_0 t).mp h'))) (ix2 r q)).trans ?_
    exact told_at m c t _ (fits_later m c t h) r q

/-- The launch leaves the reference's result. -/
theorem array_eq : (dats m 0 c).arrAt 5 cfg0.N = want m c := by
  refine (dats m 0 c).arrAt_eq_of_cover 5 (want m c) ?_ ?_
  · intro t _
    rw [Value.flushed5]
    obtain ⟨h0, h1⟩ := answer_place t
    refine funext fun (j : S512x256.Idx) => ?_
    obtain ⟨r, q, rfl⟩ : ∃ (r : Fin 512) (q : Fin 256), j = ix2 r q := ⟨j 0, j 1, eq_ix2 j⟩
    refine (made_entry m c t r q).trans ?_
    show want m c _ = want m c _
    congr 1
    funext a
    apply Fin.ext
    fin_cases a
    · show 512 * t.val + r.val = win0_5.index t (0 : Fin 2) * 512 + 1 * r.val
      rw [h0]
      omega
    · show q.val = win0_5.index t (1 : Fin 2) * 256 + 1 * q.val
      rw [h1]
      omega
  · intro i
    refine (Value.covered_iff5 i).2 ?_
    have h0 : (i 0).val < 16384 := (i 0).isLt
    have h1 : (i 1).val < 256 := (i 1).isLt
    omega

end Cert.ConvIdeal.Tile

end
-- ==== Proof.PostSum.lean ====
/- The mixer's output projection and the memory's attention for one row, as arithmetic on extended reals: the projection
   in three parts, each head's norm through a block of ones, its product with keys that are zero outside its columns,
   and that dividing the weighted values by the weights' sum divides each weight. -/
module

public import proofs.«01_k».proof.Proof.InProjSum
public import proofs.«01_k».proof.Proof.ExpertsSum
public import Idealize.ShloMosaic.Lib.Pointwise
public import Idealize.ShloMosaic.PureOps.Ideal.Laws

@[expose] public section

noncomputable section

namespace Cert.PostSum

open Idealize.ShloMosaic Cert.InProjSum

/-- The three mixers' outputs beside one another. -/
def mixed (a b : Fin 384 → EReal) (g : Fin 256 → EReal) (k : Fin 1024) : EReal :=
  if h : k.val < 384 then a ⟨k.val, h⟩ else if h' : k.val < 768 then b ⟨k.val - 384, by omega⟩ else g ⟨k.val - 768, by omega⟩

/-- An entry of the stream with the mixers' outputs, projected, added. -/
def projected (x : EReal) (a b : Fin 384 → EReal) (g : Fin 256 → EReal) (w : Fin 1024 → EReal) : EReal := x + ∑ k, mixed a b g k * w k

/-- The projection added part by part. -/
theorem projected_parts (x : EReal) (a b : Fin 384 → EReal) (g : Fin 256 → EReal) (w : Fin 1024 → EReal) :
    x + ∑ k : Fin 384, a k * w ⟨k.val, by omega⟩ + ∑ k : Fin 384, b k * w ⟨384 + k.val, by omega⟩ + ∑ k : Fin 256, g k * w ⟨768 + k.val, by omega⟩
      = projected x a b g w := by
  unfold projected
  have s1 : ∑ k : Fin 1024, mixed a b g k * w k
      = ∑ k : Fin 768, mixed a b g ⟨k.val, by omega⟩ * w ⟨k.val, by omega⟩ + ∑ k : Fin 256, mixed a b g ⟨768 + k.val, by omega⟩ * w ⟨768 + k.val, by omega⟩ :=
    Fin.sum_univ_add (a := 768) (b := 256) fun k => mixed a b g k * w k
  have s2 : ∑ k : Fin 768, mixed a b g ⟨k.val, by omega⟩ * w ⟨k.val, by omega⟩
      = ∑ k : Fin 384, mixed a b g ⟨k.val, by omega⟩ * w ⟨k.val, by omega⟩ + ∑ k : Fin 384, mixed a b g ⟨384 + k.val, by omega⟩ * w ⟨384 + k.val, by omega⟩ :=
    Fin.sum_univ_add (a := 384) (b := 384) fun k : Fin 768 => mixed a b g ⟨k.val, by omega⟩ * w ⟨k.val, by omega⟩
  have e1 (k : Fin 384) : mixed a b g ⟨k.val, by omega⟩ = a k := dif_pos k.isLt
  have e2 (k : Fin 384) : mixed a b g ⟨384 + k.val, by omega⟩ = b k := by
    unfold mixed
    rw [dif_neg (by show ¬384 + k.val < 384; omega), dif_pos (show 384 + k.val < 768 by omega)]
    exact congrArg b (Fin.ext (by show 384 + k.val - 384 = k.val; omega))
  have e3 (k : Fin 256) : mixed a b g ⟨768 + k.val, by omega⟩ = g k := by
    unfold mixed
    rw [dif_neg (by show ¬768 + k.val < 384; omega), dif_neg (by show ¬768 + k.val < 768; omega)]
    exact congrArg g (Fin.ext (by show 768 + k.val - 768 = k.val; omega))
  rw [s1, s2]
  simp only [e1, e2, e3, add_assoc]

/-- A sum whose terms are zero outside a stretch is the stretch's sum. -/
theorem stretch_sum {N B : ℕ} (o : ℕ) (ho : o + B ≤ N) (f : Fin N → EReal) (h0 : ∀ l : Fin N, ¬(o ≤ l.val ∧ l.val < o + B) → f l = 0) :
    ∑ l, f l = ∑ d : Fin B, f ⟨o + d.val, by omega⟩ := by
  refine (Finset.sum_of_injOn (fun d : Fin B => (⟨o + d.val, by omega⟩ : Fin N)) ?_ ?_ ?_ ?_).symm
  · intro d _ d' _ h
    have h' : o + d.val = o + d'.val := congrArg Fin.val h
    exact Fin.ext (by omega)
  · intro d _
    simp
  · intro l _ hl
    refine h0 l fun hin => hl ⟨⟨l.val - o, by omega⟩, by simp, Fin.ext ?_⟩
    show o + (l.val - o) = l.val
    omega
  · intro d _
    rfl

/-- The 64 columns of the head that column `l` belongs to. -/
def col (l : Fin 256) (d : Fin 64) : Fin 256 := ⟨l.val / 64 * 64 + d.val, by omega⟩

/-- The 256 memory rows of the head that column `l` belongs to. -/
def mem (l : Fin 256) (j : Fin 256) : Fin 1024 := ⟨l.val / 64 * 256 + j.val, by omega⟩

/-- One or zero, by whether `a` and `b` are the same head. -/
def same (a b : ℕ) : EReal := if a = b then 1 else 0

/-- A query: its head normalised, times the gain. -/
def query (z g : Fin 256 → EReal) (l : Fin 256) : EReal := headNorm (fun d => z (col l d)) (z l) * g l

/-- A query as the kernel makes it: the head's sum of squares through a block of ones, in two pieces. -/
def queryBlock (z g : Fin 256 → EReal) (e : Fin 256 → Fin 256 → EReal) (l : Fin 256) : EReal :=
  z l * Ideal.rsqrt ((∑ j, z j * z j * e j l + ∑ j, (z j * z j - z j * z j) * e j l) * Ideal.ofBits .f32 1015021568#32 + eps) * g l

theorem queryBlock_eq (z g : Fin 256 → EReal) (e : Fin 256 → Fin 256 → EReal) (hz : ∀ l, Fin' (z l))
    (he : ∀ j l : Fin 256, e j l = same (j.val / 64) (l.val / 64)) (l : Fin 256) : queryBlock z g e l = query z g l := by
  have h1 : ∑ j, (z j * z j - z j * z j) * e j l = 0 := Finset.sum_eq_zero fun j _ => by
    obtain ⟨r, hr⟩ := fin_mul (hz j) (hz j)
    rw [hr, ← EReal.coe_sub, sub_self, EReal.coe_zero, zero_mul]
  have h2 : ∑ j, z j * z j * e j l = ∑ d : Fin 64, z (col l d) * z (col l d) := by
    rw [stretch_sum (B := 64) (l.val / 64 * 64) (by omega)]
    · refine Finset.sum_congr rfl fun d _ => ?_
      rw [he]
      unfold same
      rw [if_pos (by show (l.val / 64 * 64 + d.val) / 64 = l.val / 64; omega), mul_one]
      rfl
    · intro j hj
      rw [he]
      unfold same
      rw [if_neg (by omega), mul_zero]
  unfold queryBlock query headNorm
  rw [h1, h2, add_zero, word_64, word_64th, Ideal.div_coe (by norm_num)]

/-- A finite head's normalised entries are finite. -/
theorem fin_query (z g : Fin 256 → EReal) (hz : ∀ l, Fin' (z l)) (hg : ∀ l, Fin' (g l)) (l : Fin 256) : Fin' (query z g l) := by
  obtain ⟨e, he, heps⟩ := eps_pos
  choose r hr using hz
  refine fin_mul ?_ (hg l)
  unfold headNorm
  have hs : (∑ j, z (col l j) * z (col l j) : EReal) = ((∑ j, r (col l j) * r (col l j) : ℝ) : EReal) := by
    rw [← coe_sum]
    refine Finset.sum_congr rfl fun j _ => ?_
    rw [hr, EReal.coe_mul]
  have hpos : 0 < (∑ j, r (col l j) * r (col l j)) * (1 / 64) + e := by
    have : 0 ≤ ∑ j, r (col l j) * r (col l j) := Finset.sum_nonneg fun j _ => mul_self_nonneg _
    positivity
  rw [hs, word_64, Ideal.div_coe (by norm_num), heps, hr l, ← EReal.coe_mul, ← EReal.coe_add, Ideal.rsqrt_coe,
    if_neg (not_lt.mpr hpos.le), if_neg hpos.ne']
  exact ⟨_, (EReal.coe_mul _ _).symm⟩

/-- A query's product with a memory row's key, over its head's columns. -/
def logit (q : Fin 256 → EReal) (K : Fin 1024 → Fin 256 → EReal) (l j : Fin 256) : EReal := ∑ d : Fin 64, q (col l d) * K (mem l j) (col l d)

/-- Keys that are zero outside the head leave the head's product. -/
theorem logit_whole (q : Fin 256 → EReal) (K : Fin 1024 → Fin 256 → EReal)
    (hK : ∀ (n : Fin 1024) (l : Fin 256), n.val / 256 ≠ l.val / 64 → K n l = 0) (l j : Fin 256) : ∑ i, q i * K (mem l j) i = logit q K l j := by
  refine stretch_sum (B := 64) (l.val / 64 * 64) (by omega) _ fun i hi => ?_
  rw [hK _ _ (by show (l.val / 64 * 256 + j.val) / 256 ≠ i.val / 64; omega), mul_zero]

theorem fin_logit (q : Fin 256 → EReal) (K : Fin 1024 → Fin 256 → EReal) (hq : ∀ l, Fin' (q l)) (hK : ∀ n l, Fin' (K n l)) (l j : Fin 256) :
    Fin' (logit q K l j) := fin_sum _ fun d => fin_mul (hq _) (hK _ _)

/-- The largest of a head's products, from the word of minus infinity on. -/
def top (L : Fin 256 → EReal) : EReal := Finset.univ.fold max (Ideal.ofBits .f32 4286578688#32) L

theorem word_bot : Ideal.ofBits .f32 4286578688#32 = ⊥ := by simp [Ideal.ofBits, Ideal.ieee]

theorem bot_top (L : Fin 256 → EReal) : max (Ideal.ofBits .f32 4286578688#32) (top L) = top L := by
  rw [word_bot]
  exact max_eq_right bot_le

/-- The exponential of a product's distance below the largest. -/
def power (L : Fin 256 → EReal) (j : Fin 256) : EReal := Ideal.exp (L j - top L)

theorem power_pos (L : Fin 256 → EReal) (hL : ∀ j, Fin' (L j)) (j : Fin 256) : ∃ r : ℝ, 0 < r ∧ power L j = (r : EReal) := by
  obtain ⟨i, -, hi⟩ := Finset.exists_mem_eq_sup Finset.univ Finset.univ_nonempty L
  have ht : top L = L i := by
    unfold top
    rw [word_bot]
    exact hi
  unfold power
  rw [ht]
  obtain ⟨a, ha⟩ := hL j
  obtain ⟨b, hb⟩ := hL i
  rw [ha, hb, ← EReal.coe_sub, Ideal.exp_coe]
  exact ⟨_, Real.exp_pos _, rfl⟩

/-- One head's answer at one column: the values weighted by the powers over their sum. -/
def answer (L v : Fin 256 → EReal) : EReal := ∑ j, v j * Ideal.div (power L j) (∑ i, power L i)

/-- Dividing the weighted sum divides every weight. -/
theorem answer_eq (L v : Fin 256 → EReal) (hL : ∀ j, Fin' (L j)) : Ideal.div (∑ j, power L j * v j) (∑ j, power L j) = answer L v := by
  choose r hr0 hr using power_pos L hL
  have hs : ∑ j, power L j = ((∑ j, r j : ℝ) : EReal) := by
    rw [← coe_sum]
    exact Finset.sum_congr rfl fun j _ => hr j
  have hpos : 0 < ∑ j, r j := Finset.sum_pos (fun j _ => hr0 j) Finset.univ_nonempty
  unfold answer
  have h0 : (0 : EReal) ≤ ((1 / ∑ j, r j : ℝ) : EReal) := by exact_mod_cast (by positivity : (0 : ℝ) ≤ 1 / ∑ j, r j)
  rw [hs, Ideal.div_coe hpos.ne', mul_comm, ← Cert.ExpertsSum.weight_sum _ h0 (EReal.coe_ne_top _)]
  refine Finset.sum_congr rfl fun j _ => ?_
  rw [Ideal.div_coe hpos.ne']
  ac_rfl

/-- One column of the attention: the answer of its head. -/
def attended (z g : Fin 256 → EReal) (K V : Fin 1024 → Fin 256 → EReal) (l : Fin 256) : EReal :=
  answer (logit (query z g) K l) fun j => V (mem l j) l

/-- The powers of one row's products with all four heads' memory rows. -/
def powers (q : Fin 256 → EReal) (K : Fin 1024 → Fin 256 → EReal) (n : Fin 1024) : EReal :=
  power (fun j => ∑ i, q i * K ⟨n.val / 256 * 256 + j.val, by omega⟩ i) ⟨n.val % 256, by omega⟩

theorem powers_of (q : Fin 256 → EReal) (K : Fin 1024 → Fin 256 → EReal) (n row : Fin 1024) (rows : Fin 256 → Fin 1024) (h : row.val = n.val)
    (hs : ∀ x, (rows x).val = n.val / 256 * 256 + x.val) :
    Ideal.exp (∑ i, q i * K row i - Finset.univ.fold max (Ideal.ofBits .f32 4286578688#32) fun x => ∑ i, q i * K (rows x) i) = powers q K n := by
  have e1 : row = ⟨n.val / 256 * 256 + n.val % 256, by omega⟩ := Fin.ext (by show row.val = n.val / 256 * 256 + n.val % 256; omega)
  have e2 : rows = fun x => ⟨n.val / 256 * 256 + x.val, by omega⟩ := funext fun x => Fin.ext (hs x)
  rw [e1, e2]
  rfl

/-- One column as the kernel makes it: both sums over all four heads' rows. -/
theorem attended_eq (z g : Fin 256 → EReal) (e : Fin 256 → Fin 256 → EReal) (K V B : Fin 1024 → Fin 256 → EReal) (hz : ∀ l, Fin' (z l)) (hg : ∀ l, Fin' (g l))
    (he : ∀ j l : Fin 256, e j l = same (j.val / 64) (l.val / 64)) (hB : ∀ (n : Fin 1024) (l : Fin 256), B n l = same (n.val / 256) (l.val / 64))
    (hKf : ∀ n l, Fin' (K n l)) (hK : ∀ (n : Fin 1024) (l : Fin 256), n.val / 256 ≠ l.val / 64 → K n l = 0)
    (hV : ∀ (n : Fin 1024) (l : Fin 256), n.val / 256 ≠ l.val / 64 → V n l = 0) (l : Fin 256) :
    Ideal.div (∑ n, powers (queryBlock z g e) K n * V n l) (∑ n, powers (queryBlock z g e) K n * B n l) = attended z g K V l := by
  have hq : queryBlock z g e = query z g := funext fun l => queryBlock_eq z g e hz he l
  have hp (j : Fin 256) : powers (query z g) K (mem l j) = power (logit (query z g) K l) j := by
    have d1 : (l.val / 64 * 256 + j.val) / 256 = l.val / 64 := by omega
    have d2 : (l.val / 64 * 256 + j.val) % 256 = j.val := by omega
    unfold powers mem
    simp only [d1, d2]
    exact congrArg (fun L => power L j) (funext fun j' => logit_whole (query z g) K hK l j')
  rw [hq, stretch_sum (N := 1024) (B := 256) (l.val / 64 * 256) (by omega), stretch_sum (N := 1024) (B := 256) (l.val / 64 * 256) (by omega)]
  · have n1 : ∑ d : Fin 256, powers (query z g) K ⟨l.val / 64 * 256 + d.val, by omega⟩ * V ⟨l.val / 64 * 256 + d.val, by omega⟩ l
        = ∑ j, power (logit (query z g) K l) j * V (mem l j) l := Finset.sum_congr rfl fun j _ => congrArg (· * V (mem l j) l) (hp j)
    have n2 : ∑ d : Fin 256, powers (query z g) K ⟨l.val / 64 * 256 + d.val, by omega⟩ * B ⟨l.val / 64 * 256 + d.val, by omega⟩ l
        = ∑ j, power (logit (query z g) K l) j := Finset.sum_congr rfl fun j _ => by
      rw [hB]
      unfold same
      rw [if_pos (by show (l.val / 64 * 256 + j.val) / 256 = l.val / 64; omega), mul_one]
      exact hp j
    rw [n1, n2]
    exact answer_eq _ _ (fin_logit _ _ (fin_query z g hz hg) hKf l)
  · intro n hn
    rw [hB]
    unfold same
    rw [if_neg (by omega), mul_zero]
  · intro n hn
    rw [hV _ _ (by omega), mul_zero]

/-- An entry of the stream with the attention, projected, added. -/
def added (x : EReal) (o w : Fin 256 → EReal) : EReal := x + ∑ l, o l * w l

end Cert.PostSum

end
-- ==== Proof.PostTile.lean ====
/- One tile of the output projection and the memory's attention, entry by entry. -/
module

public import proofs.«01_k».proof.Proof.Gen.PostIdeal.Frame
public import proofs.«01_k».proof.Proof.PostSum
public import Idealize.ShloMosaic.Lib.Pipeline.CanonAppend
public import Idealize.ShloMosaic.Lib.Pointwise

@[expose] public section

noncomputable section

namespace Cert.PostIdeal.Tile

open Cert.PostIdeal Cert.PostIdeal.Gen Cert.InProjSum Cert.PostSum
open Idealize.ShloMosaic Idealize.SL.Sem

section Stages

variable (v0 : Vec Ideal S512x1024 .f32) (v1 v5 : Vec Ideal S512x384 .bf16) (v2 v6 : Vec Ideal S384x1024 .bf16) (v9 : Vec Ideal S512x256 .bf16)
  (v10 : Vec Ideal S256x1024 .bf16) (v13 : Vec Ideal S1x1024 .f32) (v27 : Vec Ideal S1024x256 .bf16)

theorem query_entry (r : Fin 512) (l : Fin 256) : k0_pay5 (F := Ideal) v0 v1 v2 v5 v6 v9 v10 v13 v27 (ix2 r l)
    = proj (fun k => k0_pay4 (F := Ideal) v0 v1 v2 v5 v6 v9 v10 (ix2 r k)) (fun k => v13 (ix2 0 k)) (fun k => v27 (ix2 k l)) := by
  generalize h : k0_pay4 (F := Ideal) v0 v1 v2 v5 v6 v9 v10 = y
  pointwise [k0_pay5, h]
  rfl

set_option maxHeartbeats 1600000 in
theorem power_entry (q : FVec Ideal S512x256 .f32) (e : FVec Ideal S256x256 .bf16) (g : Vec Ideal S1x256 .f32) (K : Vec Ideal S1024x256 .bf16) (r : Fin 512)
    (n : Fin 1024) : k0_pay8 (F := Ideal) q (mulf q q) e g K (ix2 r n)
      = powers (queryBlock (fun l => q (ix2 r l)) (fun l => g (ix2 0 l)) (fun j l => e (ix2 j l))) (fun n l => K (ix2 n l)) n := by
  pointwise [k0_pay8]
  split_ifs
  all_goals try contradiction
  · exact powers_of _ (fun n l => K (ix2 n l)) n n (fun x => ⟨x.val, by omega⟩) rfl (fun x => by show x.val = n.val / 256 * 256 + x.val; omega)
  · exact powers_of _ (fun n l => K (ix2 n l)) n ⟨256 + (n.val - 256), by omega⟩ (fun x => ⟨256 + x.val, by omega⟩)
      (by show 256 + (n.val - 256) = n.val; omega) (fun x => by show 256 + x.val = n.val / 256 * 256 + x.val; omega)
  · exact powers_of _ (fun n l => K (ix2 n l)) n ⟨512 + (n.val - 256 - 256), by omega⟩ (fun x => ⟨512 + x.val, by omega⟩)
      (by show 512 + (n.val - 256 - 256) = n.val; omega) (fun x => by show 512 + x.val = n.val / 256 * 256 + x.val; omega)
  · exact powers_of _ (fun n l => K (ix2 n l)) n ⟨768 + (n.val - 256 - 256 - 256), by omega⟩ (fun x => ⟨768 + x.val, by omega⟩)
      (by show 768 + (n.val - 256 - 256 - 256) = n.val; omega) (fun x => by show 768 + x.val = n.val / 256 * 256 + x.val; omega)

theorem added_entry (y : FVec Ideal S512x1024 .f32) (p : FVec Ideal S512x1024 .bf16) (V B : Vec Ideal S1024x256 .bf16) (w : Vec Ideal S256x1024 .bf16)
    (r : Fin 512) (c : Fin 1024) : k0_pay9 (F := Ideal) y p V B w (ix2 r c)
      = added (y (ix2 r c)) (fun l => Ideal.div (∑ n, p (ix2 r n) * V (ix2 n l)) (∑ n, p (ix2 r n) * B (ix2 n l))) (fun l => w (ix2 l c)) := by
  pointwise [k0_pay9]
  rfl

end Stages

variable (x0 : Vec Ideal S512x1024 .f32) (x1 x2 : Vec Ideal S512x384 .bf16) (x3 : Vec Ideal S512x256 .bf16) (x4 : Vec Ideal S1024x1024 .bf16)
  (x5 : Vec Ideal S1x1024 .f32) (x6 : Vec Ideal S1024x256 .bf16) (x7 : Vec Ideal S1x256 .f32) (x8 : Vec Ideal S256x256 .bf16)
  (x9 x10 x11 : Vec Ideal S1024x256 .bf16) (x12 : Vec Ideal S256x1024 .bf16) (x13 : Vec Ideal S1x1024 .f32) (x14 : Vec Ideal S128x1024 .f32)
  (x15 : Vec Ideal S128x1 .f32)

/-- The stream after the output projection. -/
def stream (r : Fin 512) (c : Fin 1024) : EReal :=
  projected (x0 (ix2 r c)) (fun k => x1 (ix2 r k)) (fun k => x2 (ix2 r k)) (fun k => x3 (ix2 r k)) (fun k => x4 (ix2 k c))

/-- The queries before their norm. -/
def zed (r : Fin 512) (l : Fin 256) : EReal := proj (stream x0 x1 x2 x3 x4 r) (fun k => x5 (ix2 0 k)) (fun k => x6 (ix2 k l))

theorem stream_entry (r : Fin 512) (c : Fin 1024) :
    k0_pay42 (F := Ideal) x0 x1 x2 x3 x4 x5 x6 x7 x8 x9 x10 x11 x12 x13 x14 x15 (ix2 r c) = stream x0 x1 x2 x3 x4 r c := by
  unfold stream
  rw [← projected_parts]
  pointwise [k0_pay42, k0_pay4]

theorem powers_entry (r : Fin 512) (n : Fin 1024) :
    k0_pay43 (F := Ideal) x0 x1 x2 x3 x4 x5 x6 x7 x8 x9 x10 x11 x12 x13 x14 x15 (ix2 r n)
      = powers (queryBlock (zed x0 x1 x2 x3 x4 x5 x6 r) (fun l => x7 (ix2 0 l)) (fun j l => x8 (ix2 j l))) (fun n l => x9 (ix2 n l)) n := by
  have hz : zed x0 x1 x2 x3 x4 x5 x6 r = fun l => k0_pay5 (F := Ideal) (View.ld x0 r0_0) (View.ld x1 r0_1) (View.ld x4 r0_2) (View.ld x2 r0_1) (View.ld x4 r0_3)
      (View.ld x3 r0_4) (View.ld x4 r0_5) (View.ld x5 r0_6) (View.ld x6 r0_7) (ix2 r l) := funext fun l => by
    rw [query_entry]
    unfold zed
    have e : stream x0 x1 x2 x3 x4 r = fun k => k0_pay42 (F := Ideal) x0 x1 x2 x3 x4 x5 x6 x7 x8 x9 x10 x11 x12 x13 x14 x15 (ix2 r k) :=
      funext fun k => (stream_entry x0 x1 x2 x3 x4 x5 x6 x7 x8 x9 x10 x11 x12 x13 x14 x15 r k).symm
    rw [e]
    unfold k0_pay42
    pointwise []
  refine (power_entry _ _ _ _ r n).trans ?_
  rw [hz]
  pointwise [k0_pay7]

/-- What the tile leaves, entry by entry. -/
theorem tile_entry (hz : ∀ (r : Fin 512) (l : Fin 256), Fin' (zed x0 x1 x2 x3 x4 x5 x6 r l)) (hg : ∀ l : Fin 256, Fin' (x7 (ix2 0 l)))
    (he : ∀ j l : Fin 256, x8 (ix2 j l) = same (j.val / 64) (l.val / 64)) (hB : ∀ (n : Fin 1024) (l : Fin 256), x11 (ix2 n l) = same (n.val / 256) (l.val / 64))
    (hKf : ∀ (n : Fin 1024) (l : Fin 256), Fin' (x9 (ix2 n l))) (hK : ∀ (n : Fin 1024) (l : Fin 256), n.val / 256 ≠ l.val / 64 → x9 (ix2 n l) = (0 : EReal))
    (hV : ∀ (n : Fin 1024) (l : Fin 256), n.val / 256 ≠ l.val / 64 → x10 (ix2 n l) = (0 : EReal)) (r : Fin 512) (c : Fin 1024) :
    out0_16 (F := Ideal) x0 x1 x2 x3 x4 x5 x6 x7 x8 x9 x10 x11 x12 x13 x14 x15 (ix2 r c)
      = added (stream x0 x1 x2 x3 x4 r c)
        (attended (zed x0 x1 x2 x3 x4 x5 x6 r) (fun l => x7 (ix2 0 l)) (fun n l => x9 (ix2 n l)) (fun n l => x10 (ix2 n l))) (fun l => x12 (ix2 l c)) := by
  let made (y : S512x1024.Idx) : EReal := added (stream x0 x1 x2 x3 x4 (y 0) (y 1))
        (attended (zed x0 x1 x2 x3 x4 x5 x6 (y 0)) (fun l => x7 (ix2 0 l)) (fun n l => x9 (ix2 n l)) (fun n l => x10 (ix2 n l))) (fun l => x12 (ix2 l (y 1)))
  unfold out0_16
  refine View.canon_apply_of_pieces (Val := Elt Ideal) (S := S512x1024) (e := .f32) made _ ?_ (ix2 r c) (cover0_16 _ _)
  intro p hp
  simp only [List.mem_cons, List.not_mem_nil, or_false] at hp
  obtain rfl := hp
  refine fun (x : S512x1024.Idx) => ?_
  obtain ⟨r, c, rfl⟩ : ∃ (r : Fin 512) (c : Fin 1024), x = ix2 r c := ⟨x 0, x 1, eq_ix2 x⟩
  refine (added_entry _ _ _ _ _ r c).trans ?_
  have e0 : r0_0.emb (ix2 r c) 0 = r := Fin.ext (by show 0 + 1 * r.val = r.val; omega)
  have e1 : r0_0.emb (ix2 r c) 1 = c := Fin.ext (by show 0 + 1 * c.val = c.val; omega)
  show _ = added (stream x0 x1 x2 x3 x4 (r0_0.emb (ix2 r c) 0) (r0_0.emb (ix2 r c) 1)) (attended (zed x0 x1 x2 x3 x4 x5 x6 (r0_0.emb (ix2 r c) 0)) _ _ _)
    (fun l => x12 (ix2 l (r0_0.emb (ix2 r c) 1)))
  rw [e0, e1, stream_entry]
  simp only [powers_entry]
  have ea (l : Fin 256) := attended_eq (zed x0 x1 x2 x3 x4 x5 x6 r) (fun l => x7 (ix2 0 l)) (fun j l => x8 (ix2 j l)) (fun n l => x9 (ix2 n l))
    (fun n l => x10 (ix2 n l)) (fun n l => x11 (ix2 n l)) (hz r) hg he hB hKf hK hV l
  have e2 (n : Fin 1024) (l : Fin 256) : View.ld x10 r0_7 (ix2 n l) = x10 (ix2 n l) := by pointwise []
  have e3 (n : Fin 1024) (l : Fin 256) : View.ld x11 r0_7 (ix2 n l) = x11 (ix2 n l) := by pointwise []
  have e4 (l : Fin 256) (c : Fin 1024) : View.ld x12 r0_10 (ix2 l c) = x12 (ix2 l c) := by pointwise []
  simp only [e2, e3, e4]
  exact congrArg (fun o => added _ o _) (funext ea)

end Cert.PostIdeal.Tile

end
-- ==== Proof.PostRef.lean ====
/- The output projection's and the memory attention's reference, entry by entry. -/
module

public import proofs.«01_k».proof.Proof.Gen.PostRefIdeal.Read
public import proofs.«01_k».proof.Proof.PostSum
public import Idealize.ShloMosaic.Lib.Pointwise

@[expose] public section

noncomputable section

namespace Cert.PostRefIdeal.Entry

open Cert.PostRefIdeal Cert.PostRefIdeal.Read Cert.InProjSum Cert.PostSum
open Idealize.ShloMosaic Idealize.SL.Sem

variable (x0 : Vec Ideal S16384x1024 .f32) (x1 x2 : Vec Ideal S16384x384 .bf16) (x3 : Vec Ideal S16384x256 .bf16) (x4 : Vec Ideal S1024x1024 .bf16)
  (x5 : Vec Ideal S1x1024 .f32) (x6 : Vec Ideal S1024x256 .bf16) (x7 : Vec Ideal S1x256 .f32) (x8 x9 : Vec Ideal S4096x256 .bf16)
  (x10 : Vec Ideal S256x1024 .bf16)

/-- The stream after the output projection. -/
def stream (q : Fin 16384) (c : Fin 1024) : EReal :=
  projected (x0 (ix2 q c)) (fun k => x1 (ix2 q k)) (fun k => x2 (ix2 q k)) (fun k => x3 (ix2 q k)) (fun k => x4 (ix2 k c))

/-- The queries before their norm. -/
def zed (q : Fin 16384) (l : Fin 256) : EReal := proj (stream x0 x1 x2 x3 x4 q) (fun k => x5 (ix2 0 k)) (fun k => x6 (ix2 k l))

/-- Two entries at the same place are the same. -/
theorem same_place {A B : ℕ} (x : (⟨2, ![A, B]⟩ : Shape).Idx → EReal) {a a' : Fin A} {l l' : Fin B} (h : a.val = a'.val) (h' : l.val = l'.val) :
    x (ix2 a l) = x (ix2 a' l') := by rw [Fin.ext h, Fin.ext h']

theorem mixed_entry (q : Fin 16384) (k : Fin 1024) : val_main_v0 (F := Ideal) x1 x2 x3 (ix2 q k)
    = mixed (fun k => x1 (ix2 q k)) (fun k => x2 (ix2 q k)) (fun k => x3 (ix2 q k)) k := by
  pointwise [val_main_v0]
  unfold mixed
  split_ifs
  all_goals try contradiction
  · rfl
  · rename_i h1 h2 h3
    have h1' : ¬k.val < 384 := h1
    have h2' : k.val - 384 < 384 := h2
    rw [dif_pos (show k.val < 768 by omega)]
  · rename_i h1 h2 h3
    have h1' : ¬k.val < 384 := h1
    have h2' : ¬k.val - 384 < 384 := h2
    refine Eq.trans ?_ (dif_neg (show ¬k.val < 768 by omega)).symm
    exact same_place x3 (a := q) (a' := q) (l := ⟨k.val - 384 - 384, by omega⟩) (l' := ⟨k.val - 768, by omega⟩) rfl (by show k.val - 384 - 384 = k.val - 768; omega)

theorem stream_entry (q : Fin 16384) (c : Fin 1024) : val_main_v4 (F := Ideal) x0 x1 x2 x3 x4 (ix2 q c) = stream x0 x1 x2 x3 x4 q c := by
  pointwise [val_main_v4, val_main_v3, val_main_v2, val_main_v1]
  simp only [mixed_entry]
  rfl

theorem zed_entry (q : Fin 16384) (l : Fin 256) : val_main_v18 (F := Ideal) x0 x1 x2 x3 x4 x5 x6 (ix2 q l) = zed x0 x1 x2 x3 x4 x5 x6 q l := by
  pointwise [val_main_v18, val_main_v17, val_main_v16, val_main_v15, val_main_v14, val_main_v13, val_main_v12, val_main_v11, val_main_v10, val_main_cst_1,
    val_main_v9, val_main_v8, val_main_cst_0, val_main_v7, val_main_v6, val_main_cst, val_main_v5]
  simp only [stream_entry]
  rfl

/-- A position of sequence `b`, numbered through all of them. -/
def row (b : Fin 4) (s : Fin 4096) : Fin 16384 := ⟨b.val * 4096 + s.val, by omega⟩

/-- A column of head `h`, numbered through all of them. -/
def lane (h : Fin 4) (d : Fin 64) : Fin 256 := ⟨h.val * 64 + d.val, by omega⟩

theorem query_entry (b : Fin 4) (s : Fin 4096) (h : Fin 4) (d : Fin 64) : val_main_v33 (F := Ideal) x0 x1 x2 x3 x4 x5 x6 x7 (ix4 b s h d)
    = query (zed x0 x1 x2 x3 x4 x5 x6 (row b s)) (fun l => x7 (ix2 0 l)) (lane h d) := by
  pointwise [val_main_v33, val_main_v32, val_main_v31, val_main_v30, val_main_v29, val_main_v28, val_main_v27, val_main_v26, val_main_cst_4, val_main_v25,
    val_main_v24, val_main_cst_3, val_main_v23, val_main_v22, val_main_cst_2, val_main_v21, val_main_v20, val_main_v19]
  simp only [zed_entry]
  unfold query
  rw [show col (lane h d) = lane h from funext fun i => Fin.ext (by show (h.val * 64 + d.val) / 64 * 64 + i.val = h.val * 64 + i.val; omega)]
  rfl

theorem key_entry (b : Fin 4) (j : Fin 256) (h : Fin 4) (d : Fin 64) : val_main_v48 (F := Ideal) x8 (ix4 b j h d)
    = x8 (ix2 ⟨1024 * b.val + (h.val * 256 + j.val), by omega⟩ (lane h d)) := by
  pointwise [val_main_v48, val_main_v47, val_main_v46, val_main_v45, val_main_v44, val_main_v43, val_main_v42, val_main_v41, val_main_v40, val_main_v39,
    val_main_v38, val_main_v37, val_main_v36, val_main_v35, val_main_v34]
  split_ifs
  all_goals try contradiction
  · exact same_place x8 (by show b.val * 1024 + j.val = 1024 * b.val + (h.val * 256 + j.val); omega) (by show d.val = h.val * 64 + d.val; omega)
  · exact same_place x8 (by show b.val * 1024 + 256 + j.val = 1024 * b.val + (h.val * 256 + j.val); omega) (by show 64 + d.val = h.val * 64 + d.val; omega)
  · exact same_place x8 (by show b.val * 1024 + 512 + j.val = 1024 * b.val + (h.val * 256 + j.val); omega) (by show 128 + d.val = h.val * 64 + d.val; omega)
  · exact same_place x8 (by show b.val * 1024 + 768 + j.val = 1024 * b.val + (h.val * 256 + j.val); omega) (by show 192 + d.val = h.val * 64 + d.val; omega)

theorem value_entry (b : Fin 4) (j : Fin 256) (h : Fin 4) (d : Fin 64) : val_main_v63 (F := Ideal) x9 (ix4 b j h d)
    = x9 (ix2 ⟨1024 * b.val + (h.val * 256 + j.val), by omega⟩ (lane h d)) := key_entry x9 b j h d

theorem logit_entry (b h : Fin 4) (s : Fin 4096) (j : Fin 256) : val_main_v64 (F := Ideal) x0 x1 x2 x3 x4 x5 x6 x7 x8 (ix4 b h s j)
    = ∑ d : Fin 64, val_main_v33 (F := Ideal) x0 x1 x2 x3 x4 x5 x6 x7 (ix4 b s h d) * val_main_v48 (F := Ideal) x8 (ix4 b j h d) := by
  pointwise [val_main_v64]

/-- The largest of a row. -/
theorem top_entry (L : S4x4x4096x256.Idx → EReal) (z : S_.Idx → EReal) (hz : ∀ i, z i = Ideal.ofBits .f32 4286578688#32) (hr : S4x4x4096x256.ReducesTo [3] S4x4x4096)
    (hs : 0 < S_.numel) (b h : Fin 4) (s : Fin 4096) :
    Host.reduce (FloatOps.maximumf (F := Ideal) (φ := .f32)) L z hr hs (ix3 b h s) = top (fun j => L (ix4 b h s j)) := by
  unfold top
  simp only [pointwise]
  rw [hz]

theorem largest_entry (b h : Fin 4) (s : Fin 4096) : val_main_v65 (F := Ideal) x0 x1 x2 x3 x4 x5 x6 x7 x8 (ix3 b h s)
    = top (fun j => val_main_v64 (F := Ideal) x0 x1 x2 x3 x4 x5 x6 x7 x8 (ix4 b h s j)) := by
  unfold val_main_v65
  rw [top_entry]
  intro i
  rfl

theorem power_entry (b h : Fin 4) (s : Fin 4096) (j : Fin 256) : val_main_v71 (F := Ideal) x0 x1 x2 x3 x4 x5 x6 x7 x8 (ix4 b h s j)
    = power (fun j => val_main_v64 (F := Ideal) x0 x1 x2 x3 x4 x5 x6 x7 x8 (ix4 b h s j)) j := by
  unfold power
  rw [← bot_top, ← largest_entry, val_main_v71_apply, val_main_v70_apply, val_main_v69_apply, val_main_v68_apply, val_main_v67_apply, val_main_v66_apply,
    show idx_main_v68 (idx_main_v69 (ix4 b h s j)) = ix3 b h s from funext fun a => by fin_cases a <;> rfl]
  beta_reduce
  generalize val_main_v65 (F := Ideal) x0 x1 x2 x3 x4 x5 x6 x7 x8 (ix3 b h s) = T
  generalize val_main_v64 (F := Ideal) x0 x1 x2 x3 x4 x5 x6 x7 x8 (ix4 b h s j) = L
  rfl

theorem attended_entry (b h : Fin 4) (s : Fin 4096) (d : Fin 64) : val_main_v76 (F := Ideal) x0 x1 x2 x3 x4 x5 x6 x7 x8 x9 (ix4 b h d s)
    = answer (fun j => val_main_v64 (F := Ideal) x0 x1 x2 x3 x4 x5 x6 x7 x8 (ix4 b h s j)) (fun j => val_main_v63 (F := Ideal) x9 (ix4 b j h d)) := by
  pointwise [val_main_v76, val_main_v75, val_main_v74, val_main_v73, val_main_v72, val_main_cst_7]
  simp only [power_entry]
  unfold answer
  rfl

theorem entry (q : Fin 16384) (c : Fin 1024) : val_main_v81 (F := Ideal) x0 x1 x2 x3 x4 x5 x6 x7 x8 x9 x10 (ix2 q c)
    = added (stream x0 x1 x2 x3 x4 q c)
      (attended (zed x0 x1 x2 x3 x4 x5 x6 q) (fun l => x7 (ix2 0 l)) (fun n l => x8 (ix2 ⟨1024 * (q.val / 4096) + n.val, by omega⟩ l))
        (fun n l => x9 (ix2 ⟨1024 * (q.val / 4096) + n.val, by omega⟩ l))) (fun l => x10 (ix2 l c)) := by
  pointwise [val_main_v81, val_main_v80, val_main_v79, val_main_v78, val_main_v77]
  have e1 : row ⟨q.val / 4096, by omega⟩ ⟨q.val % 4096, by omega⟩ = q := Fin.ext (by show q.val / 4096 * 4096 + q.val % 4096 = q.val; omega)
  have e2 (l : Fin 256) : lane ⟨l.val / 64, by omega⟩ ⟨l.val % 64, by omega⟩ = l := Fin.ext (by show l.val / 64 * 64 + l.val % 64 = l.val; omega)
  simp only [stream_entry, attended_entry, logit_entry, query_entry, key_entry, value_entry, e1, e2]
  unfold added attended logit
  rfl

end Cert.PostRefIdeal.Entry

end
-- ==== Proof.PostPre.lean ====
/- The cross-attention's precondition read back: gains, weights and keys are finite, and a memory row's keys and values are zero outside its own head. -/
module

public import proofs.«01_k».proof.Proof.Gen.Pre_memory_apart
public import proofs.«01_k».proof.Proof.InProjPre
public import proofs.«01_k».proof.Proof.PostSum

@[expose] public section

noncomputable section

namespace Cert.PostPre

open Idealize.ShloMosaic Cert.InProjSum Cert.PostSum
open Cert.InProjPre (fin_of_bits)

/-- A column's head as a word: 64 columns to a head. -/
theorem col_word : ∀ l : Fin 256, IntOp.shrui .host (BitVec.ofNat 32 l.val) 6#32 = BitVec.ofNat 32 (l.val / 64) := by decide +kernel

/-- A memory row's head as a word, over the four sequences. -/
theorem rows_word : ∀ n : Fin 4096, IntOp.andi (IntOp.shrui .host (BitVec.ofNat 32 n.val) 8#32) 3#32 = BitVec.ofNat 32 (n.val / 256 % 4) := by decide +kernel

/-- Two heads' words are equal when the heads are. -/
theorem head_word {a b : ℕ} (ha : a < 4) (hb : b < 4) : IntOp.cmpi .eq (BitVec.ofNat 32 a) (BitVec.ofNat 32 b) = if a = b then 1#1 else 0#1 := by
  have : ∀ a b : Fin 4, IntOp.cmpi .eq (BitVec.ofNat 32 a.val) (BitVec.ofNat 32 b.val) = if a.val = b.val then 1#1 else 0#1 := by decide +kernel
  exact this ⟨a, ha⟩ ⟨b, hb⟩

theorem same_word {a b : ℕ} (ha : a < 4) (hb : b < 4) :
    (FloatOps.uitofp (F := Ideal) .bf16 (IntOp.cmpi .eq (BitVec.ofNat 32 a) (BitVec.ofNat 32 b)) : EReal) = same a b := by
  rw [head_word ha hb]
  unfold same
  by_cases h : a = b
  · rw [if_pos h, if_pos h]
    show (((1#1 : BitVec 1).toNat : ℝ) : EReal) = 1
    simp
  · rw [if_neg h, if_neg h]
    show (((0#1 : BitVec 1).toNat : ℝ) : EReal) = 0
    simp

variable (a0 : FVec Ideal ⟨2, ![16384, 1024]⟩ .f32) (a1 a2 : FVec Ideal ⟨2, ![16384, 384]⟩ .bf16) (a3 : FVec Ideal ⟨2, ![16384, 256]⟩ .bf16)
  (a4 : FVec Ideal ⟨2, ![1024, 1024]⟩ .bf16) (a5 : FVec Ideal ⟨2, ![1, 1024]⟩ .f32) (a6 : FVec Ideal ⟨2, ![1024, 256]⟩ .bf16) (a7 : FVec Ideal ⟨2, ![1, 256]⟩ .f32)
  (a8 a9 : FVec Ideal ⟨2, ![4096, 256]⟩ .bf16) (a10 : FVec Ideal ⟨2, ![256, 1024]⟩ .bf16) (a11 : FVec Ideal ⟨2, ![1, 1024]⟩ .f32)
  (a12 : FVec Ideal ⟨2, ![128, 1024]⟩ .bf16) (a13 : FVec Ideal ⟨2, ![128, 1]⟩ .f32)
  (h : Cert.Pre_memory_apart.fn a0 a1 a2 a3 a4 a5 a6 a7 a8 a9 a10 a11 a12 a13 = fun _ => 1#1)

include h

theorem gains (k : Fin 1024) : Fin' (a5 (ix2 0 k)) := by
  have h' := congrFun h (fun i => i.elim0)
  have h1 := (IntOp.andi_eq_one.1 (IntOp.andi_eq_one.1 (IntOp.andi_eq_one.1 (IntOp.andi_eq_one.1 (IntOp.andi_eq_one.1 h').1).1).1).1).1
  exact fin_of_bits _ (Host.reduce_andi_all _ _ _ _ _ h1 (ix2 0 k))

theorem weights (k : Fin 1024) (l : Fin 256) : Fin' (a6 (ix2 k l)) := by
  have h' := congrFun h (fun i => i.elim0)
  have h1 := (IntOp.andi_eq_one.1 (IntOp.andi_eq_one.1 (IntOp.andi_eq_one.1 (IntOp.andi_eq_one.1 (IntOp.andi_eq_one.1 h').1).1).1).1).2
  exact fin_of_bits _ (Host.reduce_andi_all _ _ _ _ _ h1 (ix2 k l))

theorem headGains (l : Fin 256) : Fin' (a7 (ix2 0 l)) := by
  have h' := congrFun h (fun i => i.elim0)
  have h1 := (IntOp.andi_eq_one.1 (IntOp.andi_eq_one.1 (IntOp.andi_eq_one.1 (IntOp.andi_eq_one.1 h').1).1).1).2
  exact fin_of_bits _ (Host.reduce_andi_all _ _ _ _ _ h1 (ix2 0 l))

theorem keys (n : Fin 4096) (l : Fin 256) : Fin' (a8 (ix2 n l)) := by
  have h' := congrFun h (fun i => i.elim0)
  have h1 := (IntOp.andi_eq_one.1 (IntOp.andi_eq_one.1 (IntOp.andi_eq_one.1 h').1).1).2
  exact fin_of_bits _ (Host.reduce_andi_all _ _ _ _ _ h1 (ix2 n l))

omit h in
/-- An entry outside its own head that the condition holds of is zero. -/
theorem zero_of_bits (a : EReal) (n : Fin 4096) (l : Fin 256) (hn : n.val / 256 % 4 ≠ l.val / 64)
    (h : IntOp.ori (IntOp.cmpi .eq (IntOp.andi (IntOp.shrui .host (BitVec.ofNat 32 n.val) 8#32) 3#32) (IntOp.shrui .host (BitVec.ofNat 32 l.val) 6#32))
      (BitVec.ofBool (decide (a = Ideal.ofBits .f32 0x00000000#32))) = 1#1) : a = 0 := by
  rw [rows_word, col_word, head_word (by omega) (by omega), if_neg hn] at h
  rcases IntOp.ori_eq_one.1 h with h | h
  · exact absurd h (by decide)
  · rw [StableHlo.Predicate.ofBool_eq_one_iff, decide_eq_true_iff] at h
    rw [h]
    simp [Ideal.ofBits, Ideal.ieee]

theorem keys_apart (n : Fin 4096) (l : Fin 256) (hn : n.val / 256 % 4 ≠ l.val / 64) : a8 (ix2 n l) = (0 : EReal) := by
  have h' := congrFun h (fun i => i.elim0)
  have h1 := (IntOp.andi_eq_one.1 (IntOp.andi_eq_one.1 h').1).2
  exact zero_of_bits _ n l hn (Host.reduce_andi_all _ _ _ _ _ h1 (ix2 n l))

theorem values_apart (n : Fin 4096) (l : Fin 256) (hn : n.val / 256 % 4 ≠ l.val / 64) : a9 (ix2 n l) = (0 : EReal) := by
  have h' := congrFun h (fun i => i.elim0)
  have h1 := (IntOp.andi_eq_one.1 h').2
  exact zero_of_bits _ n l hn (Host.reduce_andi_all _ _ _ _ _ h1 (ix2 n l))

end Cert.PostPre

end
-- ==== Proof.PostOnes.lean ====
/- The two arrays of ones that the output projection's call is given: one where a row's head and a column's agree, zero elsewhere. -/
module

public import proofs.«01_k».proof.Proof.Gen.PostIdeal.Value
public import proofs.«01_k».proof.Proof.PostPre
public import Idealize.ShloMosaic.Lib.Routing.Words

@[expose] public section

set_option maxRecDepth 100000
set_option maxHeartbeats 4000000

noncomputable section

namespace Cert.PostIdeal.Ones

open Cert.PostIdeal Cert.PostIdeal.Gen Cert.InProjSum Cert.PostSum
open Idealize.ShloMosaic Idealize.ShloMosaic.TcCoe Idealize.SL.Sem

variable (m : (ℓ : Loc nD τ sig) → Buf (Elt Ideal) ℓ) (c : Dev nD)

/-- Half a row of the constant is ones in its first half, ones in its second, or zeros: three of the tables. -/
theorem half_row (i : ℕ) : lit0t0_0 i = (if i % 128 / 64 = 0 then 0x3F800000#32 else 0#32)
    ∧ lit0t0_128 i = (if i % 128 / 64 = 1 then 0x3F800000#32 else 0#32) ∧ lit0t0_1 i = 0#32 := by
  unfold lit0t0_0 lit0t0_128 lit0t0_1
  have h : i % 128 < 128 := Nat.mod_lt _ (by norm_num)
  generalize i % 128 = r at h ⊢
  interval_cases r <;> exact ⟨rfl, rfl, rfl⟩

/-- The half rows of each 64 rows are these three. -/
theorem half_rows (i : ℕ) : lit0t1_0 i = (if i / 128 % 128 % 2 = 0 then lit0t0_0 i else lit0t0_1 i)
    ∧ lit0t1_1 i = (if i / 128 % 128 % 2 = 0 then lit0t0_128 i else lit0t0_1 i)
    ∧ lit0t1_2 i = (if i / 128 % 128 % 2 = 1 then lit0t0_0 i else lit0t0_1 i)
    ∧ lit0t1_3 i = (if i / 128 % 128 % 2 = 1 then lit0t0_128 i else lit0t0_1 i) := by
  unfold lit0t1_0 lit0t1_1 lit0t1_2 lit0t1_3
  have h : i / 128 % 128 < 128 := Nat.mod_lt _ (by norm_num)
  generalize i / 128 % 128 = r at h ⊢
  interval_cases r <;> exact ⟨rfl, rfl, rfl, rfl⟩

/-- The constant's entry in a row and a column. -/
theorem literal (a b : Fin 256) : lit0t (256 * a.val + b.val) = if a.val / 64 = b.val / 64 then 0x3F800000#32 else 0#32 := by
  have ha := a.isLt
  have hb := b.isLt
  obtain ⟨e0, e1, e2, e3⟩ := half_rows (256 * a.val + b.val)
  obtain ⟨f0, f1, f2⟩ := half_row (256 * a.val + b.val)
  have hq : (256 * a.val + b.val) / 16384 = a.val / 64 := by omega
  have h2 : (256 * a.val + b.val) / 128 % 128 % 2 = b.val / 128 := by omega
  have h1 : (256 * a.val + b.val) % 128 = b.val % 128 := by omega
  rw [h2] at e0 e1 e2 e3
  rw [h1] at f0 f1
  unfold lit0t
  rw [e0, e1, e2, e3, f0, f1, f2, hq]
  generalize hz : a.val / 64 = z
  have hz4 : z < 4 := by omega
  interval_cases z <;> split_ifs <;> first | rfl | omega

/-- The first array of ones is that constant. -/
theorem ones (j l : Fin 256) : (V m c main_v0 : S256x256.Idx → EReal) (ix2 j l) = same (j.val / 64) (l.val / 64) := by
  have ev : (V m c main_v0 : S256x256.Idx → EReal) = truncf (F := Ideal) .bf16 (fun i => FloatOps.ofBits .f32 (lit0 (S256x256.rowMajor i))) bitsLt_bf16_f32 := by
    show StableHlo.after _ _ (Proc.devRef .tc main_v0) = _
    simp only [hostOps0, hostOps0_1, hostOps0_2, hostOps0_3, hostOps0_4, List.flatten_cons, List.flatten_nil, List.append_nil, List.cons_append, List.nil_append]
    after_results_simp
    rfl
  rw [ev]
  show (Ideal.ofBits .f32 (lit0t (S256x256.rowMajor (ix2 j l)).val) : EReal) = _
  have er : (S256x256.rowMajor (ix2 j l)).val = 256 * j.val + l.val := by
    rw [Shape.rowMajor_val_two]
    show j.val * 256 + l.val = 256 * j.val + l.val
    omega
  rw [er, literal]
  unfold same
  by_cases h : j.val / 64 = l.val / 64
  · rw [if_pos h, if_pos h]
    simp [Ideal.ofBits, Ideal.ieee]
    norm_cast
    norm_num
  · rw [if_neg h, if_neg h]
    simp [Ideal.ofBits, Ideal.ieee]

/-- The second compares floor divisions of a row's number by 256 and of a column's by 64. -/
theorem blocks (n : Fin 1024) (l : Fin 256) : (V m c main_v10 : S1024x256.Idx → EReal) (ix2 n l) = same (n.val / 256) (l.val / 64) := by
  have ev : (V m c main_v10 : S1024x256.Idx → EReal) = uitofp (F := Ideal) .bf16 (cmpi .eq
      (broadcastInDim S1024x256 ![0, 1] bcast_S1024x1_S1024x256_0_1 (Routing.pyDiv bcast_S_S1024x1 (broadcastInDim S1024x1 ![0] bcast_S1024_S1024x1_0 (iotaInDim S1024 32 0)) (constantI S_ 32 256#32)))
      (broadcastInDim S1024x256 ![0, 1] bcast_S1x256_S1024x256_0_1 (Routing.pyDiv bcast_S_S1x256 (broadcastInDim S1x256 ![1] bcast_S256_S1x256_1 (iotaInDim S256 32 0)) (constantI S_ 32 64#32)))) := by
    show StableHlo.after _ _ (Proc.devRef .tc main_v10) = _
    simp only [hostOps0, hostOps0_1, hostOps0_2, hostOps0_3, hostOps0_4, List.flatten_cons, List.flatten_nil, List.append_nil, List.cons_append, List.nil_append]
    after_results_simp
    rfl
  rw [ev]
  have e0 : Routing.pyDiv bcast_S_S1024x1 (broadcastInDim S1024x1 ![0] bcast_S1024_S1024x1_0 (iotaInDim S1024 32 0)) (constantI S_ 32 256#32) (ix2 n 0)
      = BitVec.ofNat 32 (n.val / 256) :=
    Routing.pyDiv_ap _ _ _ _ (a := n.val) (b := 256) rfl rfl (by omega) (by norm_num) (by norm_num)
  have e1 : Routing.pyDiv bcast_S_S1x256 (broadcastInDim S1x256 ![1] bcast_S256_S1x256_1 (iotaInDim S256 32 0)) (constantI S_ 32 64#32) (ix2 0 l)
      = BitVec.ofNat 32 (l.val / 64) :=
    Routing.pyDiv_ap _ _ _ _ (a := l.val) (b := 64) rfl rfl (by omega) (by norm_num) (by norm_num)
  refine Eq.trans ?_ (Cert.PostPre.same_word (a := n.val / 256) (b := l.val / 64) (by omega) (by omega))
  rw [← e0, ← e1]
  show (FloatOps.uitofp (F := Ideal) .bf16 (IntOp.cmpi .eq (Routing.pyDiv _ _ _ _) (Routing.pyDiv _ _ _ _)) : EReal) = _
  congr 3
  · congr 1
    funext k
    fin_cases k <;> rfl
  · congr 1
    funext k
    fin_cases k <;> rfl

end Cert.PostIdeal.Ones

end
-- ==== Proof.PostArray.lean ====
/- The output projection's and cross-attention's first result: what the launch leaves is the reference's term at the same arguments. -/
module

public import proofs.«01_k».proof.Proof.Gen.PostIdeal.Value
public import proofs.«01_k».proof.Proof.PostTile
public import proofs.«01_k».proof.Proof.PostRef
public import proofs.«01_k».proof.Proof.PostPre
public import proofs.«01_k».proof.Proof.PostOnes
public import Idealize.ShloMosaic.Lib.Claim
public import Idealize.ShloMosaic.Lib.Pipeline.Value
public import Idealize.ShloMosaic.Lib.Pipeline.Covers

@[expose] public section

set_option maxHeartbeats 4000000

noncomputable section

namespace Cert.PostIdeal.Tile

open Cert.PostIdeal Cert.PostIdeal.Gen Cert.InProjSum Cert.PostSum
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The eleven arguments the first result is of. -/
def residual : S16384x1024.Idx → EReal := V m c main_arg0
def linear : S16384x384.Idx → EReal := V m c main_arg1
def sparse : S16384x384.Idx → EReal := V m c main_arg2
def conv : S16384x256.Idx → EReal := V m c main_arg3
def outW : S1024x1024.Idx → EReal := V m c main_arg4
def gain : S1x1024.Idx → EReal := V m c main_arg5
def queryW : S1024x256.Idx → EReal := V m c main_arg6
def headGain : S1x256.Idx → EReal := V m c main_arg7
def keysAll : S4096x256.Idx → EReal := V m c main_arg8
def valuesAll : S4096x256.Idx → EReal := V m c main_arg9
def backW : S256x1024.Idx → EReal := V m c main_arg10

theorem points (t : Fin cfg0.N) : t.val < 32 := lt_of_lt_of_eq t.isLt N_0

/-- The row that row `r` of a tile is, and the memory row that row `n` of its sequence's is. -/
def rowNo (t : Fin cfg0.N) (r : Fin 512) : Fin 16384 := ⟨512 * t.val + r.val, by have h := points t; omega⟩
def memNo (t : Fin cfg0.N) (n : Fin 1024) : Fin 4096 := ⟨1024 * (t.val / 8) + n.val, by have h := points t; omega⟩

theorem row_place : ∀ t : Fin cfg0.N, (win0_0.index t (0 : Fin 2) = t.val ∧ win0_1.index t (0 : Fin 2) = t.val ∧ win0_2.index t (0 : Fin 2) = t.val ∧ win0_3.index t (0 : Fin 2) = t.val)
    ∧ win0_9.index t (0 : Fin 2) = t.val / 8 ∧ win0_10.index t (0 : Fin 2) = t.val / 8 ∧ win0_16.index t (0 : Fin 2) = t.val := (by decide +kernel : ∀ t : Fin grid0.N, _)

/-- An array read at an index with given coordinates. -/
theorem read_at {A B : ℕ} (x : (⟨2, ![A, B]⟩ : Shape).Idx → EReal) (i : (⟨2, ![A, B]⟩ : Shape).Idx) (a : Fin A) (b : Fin B) (h0 : (i 0).val = a.val)
    (h1 : (i 1).val = b.val) : x i = x (ix2 a b) := by
  congr 1
  funext k
  apply Fin.ext
  fin_cases k
  · exact h0
  · exact h1

/-- An array read through an index that keeps both coordinates is itself. -/
theorem read_whole {A B : ℕ} (x : (⟨2, ![A, B]⟩ : Shape).Idx → EReal) (f : (⟨2, ![A, B]⟩ : Shape).Idx → (⟨2, ![A, B]⟩ : Shape).Idx)
    (h0 : ∀ j, (f j 0).val = 0 * A + 1 * (j 0).val) (h1 : ∀ j, (f j 1).val = 0 * B + 1 * (j 1).val) : (fun j => x (f j)) = x :=
  funext fun j => (read_at x (f j) (j 0) (j 1) ((h0 j).trans (by omega)) ((h1 j).trans (by omega))).trans (congrArg x (eq_ix2 j).symm)

/-- A block of rows read at a tile: 512 rows from the tile's first, or the 1024 memory rows of its sequence. -/
theorem residual_at (t : Fin cfg0.N) (r : Fin 512) (k : Fin 1024) : (iblk m c 0 t : S512x1024.Idx → EReal) (ix2 r k) = residual m c (ix2 (rowNo t r) k) :=
  read_at (residual m c) _ _ _ (by show win0_0.index t (0 : Fin 2) * 512 + 1 * r.val = 512 * t.val + r.val; have h := row_place t; omega)
    (by show 0 * 1024 + 1 * k.val = k.val; omega)

theorem linear_at (t : Fin cfg0.N) (r : Fin 512) (k : Fin 384) : (iblk m c 1 t : S512x384.Idx → EReal) (ix2 r k) = linear m c (ix2 (rowNo t r) k) :=
  read_at (linear m c) _ _ _ (by show win0_1.index t (0 : Fin 2) * 512 + 1 * r.val = 512 * t.val + r.val; have h := row_place t; omega)
    (by show 0 * 384 + 1 * k.val = k.val; omega)

theorem sparse_at (t : Fin cfg0.N) (r : Fin 512) (k : Fin 384) : (iblk m c 2 t : S512x384.Idx → EReal) (ix2 r k) = sparse m c (ix2 (rowNo t r) k) :=
  read_at (sparse m c) _ _ _ (by show win0_2.index t (0 : Fin 2) * 512 + 1 * r.val = 512 * t.val + r.val; have h := row_place t; omega)
    (by show 0 * 384 + 1 * k.val = k.val; omega)

theorem conv_at (t : Fin cfg0.N) (r : Fin 512) (k : Fin 256) : (iblk m c 3 t : S512x256.Idx → EReal) (ix2 r k) = conv m c (ix2 (rowNo t r) k) :=
  read_at (conv m c) _ _ _ (by show win0_3.index t (0 : Fin 2) * 512 + 1 * r.val = 512 * t.val + r.val; have h := row_place t; omega)
    (by show 0 * 256 + 1 * k.val = k.val; omega)

theorem keysAll_at (t : Fin cfg0.N) (n : Fin 1024) (l : Fin 256) : (iblk m c 9 t : S1024x256.Idx → EReal) (ix2 n l) = keysAll m c (ix2 (memNo t n) l) :=
  read_at (keysAll m c) _ _ _ (by show win0_9.index t (0 : Fin 2) * 1024 + 1 * n.val = 1024 * (t.val / 8) + n.val; have h := row_place t; omega)
    (by show 0 * 256 + 1 * l.val = l.val; omega)

theorem valuesAll_at (t : Fin cfg0.N) (n : Fin 1024) (l : Fin 256) : (iblk m c 10 t : S1024x256.Idx → EReal) (ix2 n l) = valuesAll m c (ix2 (memNo t n) l) :=
  read_at (valuesAll m c) _ _ _ (by show win0_10.index t (0 : Fin 2) * 1024 + 1 * n.val = 1024 * (t.val / 8) + n.val; have h := row_place t; omega)
    (by show 0 * 256 + 1 * l.val = l.val; omega)

/-- The other arguments are whole at every tile. -/
theorem outW_at (t : Fin cfg0.N) : (iblk m c 4 t : S1024x1024.Idx → EReal) = outW m c := read_whole (outW m c) _ (fun _ => rfl) (fun _ => rfl)
theorem gain_at (t : Fin cfg0.N) : (iblk m c 5 t : S1x1024.Idx → EReal) = gain m c := read_whole (gain m c) _ (fun _ => rfl) (fun _ => rfl)
theorem queryW_at (t : Fin cfg0.N) : (iblk m c 6 t : S1024x256.Idx → EReal) = queryW m c := read_whole (queryW m c) _ (fun _ => rfl) (fun _ => rfl)
theorem headGain_at (t : Fin cfg0.N) : (iblk m c 7 t : S1x256.Idx → EReal) = headGain m c := read_whole (headGain m c) _ (fun _ => rfl) (fun _ => rfl)
theorem backW_at (t : Fin cfg0.N) : (iblk m c 12 t : S256x1024.Idx → EReal) = backW m c := read_whole (backW m c) _ (fun _ => rfl) (fun _ => rfl)

/-- The two arrays of ones are made before the launch: one where a row's and a column's heads agree. -/
theorem ones_at (t : Fin cfg0.N) (j l : Fin 256) : (iblk m c 8 t : S256x256.Idx → EReal) (ix2 j l) = same (j.val / 64) (l.val / 64) := by
  have e : (iblk m c 8 t : S256x256.Idx → EReal) = V m c main_v0 := read_whole (V m c main_v0 : S256x256.Idx → EReal) _ (fun _ => rfl) (fun _ => rfl)
  rw [e]
  exact Ones.ones m c j l

theorem blocks_at (t : Fin cfg0.N) (n : Fin 1024) (l : Fin 256) : (iblk m c 11 t : S1024x256.Idx → EReal) (ix2 n l) = same (n.val / 256) (l.val / 64) := by
  have e : (iblk m c 11 t : S1024x256.Idx → EReal) = V m c main_v10 := read_whole (V m c main_v10 : S1024x256.Idx → EReal) _ (fun _ => rfl) (fun _ => rfl)
  rw [e]
  exact Ones.blocks m c n l

/-- The reference's result at the launch's arguments. -/
def want : S16384x1024.Idx → EReal :=
  Cert.PostRefIdeal.Read.val_main_v81 (F := Ideal) (residual m c) (linear m c) (sparse m c) (conv m c) (outW m c) (gain m c) (queryW m c) (headGain m c) (keysAll m c)
    (valuesAll m c) (backW m c)

/-- The stream and the queries of a tile's row are those of the row it is. -/
theorem stream_at (t : Fin cfg0.N) (r : Fin 512) (k : Fin 1024) : stream (iblk m c 0 t) (iblk m c 1 t) (iblk m c 2 t) (iblk m c 3 t) (iblk m c 4 t) r k
    = Cert.PostRefIdeal.Entry.stream (residual m c) (linear m c) (sparse m c) (conv m c) (outW m c) (rowNo t r) k := by
  unfold stream Cert.PostRefIdeal.Entry.stream
  rw [outW_at m c t]
  simp only [residual_at m c t, linear_at m c t, sparse_at m c t, conv_at m c t]

theorem zed_at (t : Fin cfg0.N) (r : Fin 512) (l : Fin 256) : zed (iblk m c 0 t) (iblk m c 1 t) (iblk m c 2 t) (iblk m c 3 t) (iblk m c 4 t) (iblk m c 5 t) (iblk m c 6 t) r l
    = Cert.PostRefIdeal.Entry.zed (residual m c) (linear m c) (sparse m c) (conv m c) (outW m c) (gain m c) (queryW m c) (rowNo t r) l := by
  unfold zed Cert.PostRefIdeal.Entry.zed
  rw [gain_at m c t, queryW_at m c t]
  exact congrArg (fun f => proj f _ _) (funext fun k => stream_at m c t r k)

variable (hg : ∀ k : Fin 1024, Fin' (gain m c (ix2 0 k))) (hw : ∀ (k : Fin 1024) (l : Fin 256), Fin' (queryW m c (ix2 k l)))
  (hh : ∀ l : Fin 256, Fin' (headGain m c (ix2 0 l))) (hk : ∀ (n : Fin 4096) (l : Fin 256), Fin' (keysAll m c (ix2 n l)))
  (hK : ∀ (n : Fin 4096) (l : Fin 256), n.val / 256 % 4 ≠ l.val / 64 → keysAll m c (ix2 n l) = 0)
  (hV : ∀ (n : Fin 4096) (l : Fin 256), n.val / 256 % 4 ≠ l.val / 64 → valuesAll m c (ix2 n l) = 0)

include hg hw hh hk hK hV

/-- What a tile leaves is its block of that result. -/
theorem made_entry (t : Fin cfg0.N) (r : Fin 512) (q : Fin 1024) :
    (out0_16 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) : S512x1024.Idx → EReal) (ix2 r q)
      = want m c (ix2 (rowNo t r) q) := by
  have ht := points t
  refine (tile_entry (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (fun r l => ?_) (fun l => ?_)
    (ones_at m c t) (blocks_at m c t) (fun n l => ?_) (fun n l hn => ?_) (fun n l hn => ?_) r q).trans ?_
  · rw [zed_at m c t]
    exact fin_proj _ _ _ hg (fun k => hw k l)
  · rw [headGain_at m c t]
    exact hh l
  · rw [keysAll_at m c t]
    exact hk _ l
  · rw [keysAll_at m c t]
    exact hK _ l (by show (1024 * (t.val / 8) + n.val) / 256 % 4 ≠ l.val / 64; omega)
  · rw [valuesAll_at m c t]
    exact hV _ l (by show (1024 * (t.val / 8) + n.val) / 256 % 4 ≠ l.val / 64; omega)
  · unfold want
    rw [Cert.PostRefIdeal.Entry.entry, stream_at m c t, headGain_at m c t, backW_at m c t]
    have ez := funext (zed_at m c t r)
    rw [ez]
    simp only [keysAll_at m c t, valuesAll_at m c t]
    have em (n : Fin 1024) (h) : (⟨1024 * ((rowNo t r).val / 4096) + n.val, h⟩ : Fin 4096) = memNo t n :=
      Fin.ext (by show 1024 * ((512 * t.val + r.val) / 4096) + n.val = 1024 * (t.val / 8) + n.val; omega)
    simp only [em]

/-- The launch leaves the reference's result. -/
theorem array_eq : (dats m 0 c).arrAt 16 cfg0.N = want m c := by
  refine (dats m 0 c).arrAt_eq_of_cover 16 (want m c) ?_ ?_
  · intro t _
    rw [Value.flushed16]
    have h := row_place t
    refine funext fun (j : S512x1024.Idx) => ?_
    obtain ⟨r, q, rfl⟩ : ∃ (r : Fin 512) (q : Fin 1024), j = ix2 r q := ⟨j 0, j 1, eq_ix2 j⟩
    refine (made_entry m c hg hw hh hk hK hV t r q).trans ?_
    exact (read_at (want m c) _ (rowNo t r) q (by show win0_16.index t (0 : Fin 2) * 512 + 1 * r.val = 512 * t.val + r.val; omega)
      (by show 0 * 1024 + 1 * q.val = q.val; omega)).symm
  · refine fun (i : S16384x1024.Idx) => ?_
    have hi0 : (i 0).val < 16384 := (i 0).isLt
    have hi1 : (i 1).val < 1024 := (i 1).isLt
    have hN : (i 0).val / 512 < cfg0.N := lt_of_lt_of_eq (show (i 0).val / 512 < 32 by omega) N_0.symm
    refine ⟨⟨(i 0).val / 512, hN⟩, flush0_16 _, ?_⟩
    have h0 := (row_place ⟨(i 0).val / 512, hN⟩).2.2.2
    refine Eq.mpr (congrArg (fun s : Finset S16384x1024.Idx => i ∈ s) (View.set_slice_whole main_v11_0 ((cfg0.win 16).rect ⟨(i 0).val / 512, hN⟩ : Rect S16384x1024))) ?_
    refine Rect.mem_set_unit.mpr fun (a : Fin 2) => ?_
    fin_cases a
    · show win0_16.index ⟨(i 0).val / 512, hN⟩ (0 : Fin 2) * 512 ≤ (i 0).val ∧ (i 0).val < win0_16.index ⟨(i 0).val / 512, hN⟩ (0 : Fin 2) * 512 + 512
      rw [h0]
      show (i 0).val / 512 * 512 ≤ (i 0).val ∧ (i 0).val < (i 0).val / 512 * 512 + 512
      omega
    · show 0 * 1024 ≤ (i 1).val ∧ (i 1).val < 0 * 1024 + 1024
      omega

end Cert.PostIdeal.Tile

end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Post
public import proofs.«01_k».proof.Proof.Gen.Post.Skeleton
public import proofs.«01_k».proof.Proof.Gen.Post.Launch
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.Pre_memory_apart
public import proofs.«01_k».proof.Proof.Gen.Pre_weights_finite
public import proofs.«01_k».proof.Proof.Gen.Pre_experts_exist
public import proofs.«01_k».proof.Proof.Gen.Pre_routed
public import proofs.«01_k».proof.Proof.ExpertsOk
public import proofs.«01_k».proof.Proof.ExpertsArray
public import proofs.«01_k».proof.Proof.InProjArray
public import proofs.«01_k».proof.Proof.InProjPre
public import proofs.«01_k».proof.Proof.ConvArray
public import proofs.«01_k».proof.Proof.PostArray
public import proofs.«01_k».proof.Proof.PostPre
public import Idealize.ShloMosaic.Adequacy
public import Idealize.ShloMosaic.Init
public import Idealize.ShloMosaic.Lib.Claim

@[expose] public section

noncomputable section

namespace Cert.Proof

open Idealize.ShloMosaic Idealize.SL.Sem Cert.Experts

open Cert.ExpertsPre Idealize.ShloMosaic.StableHlo

/-- The kernel runs on tables that name experts. -/
theorem experts_frame : quiescent_Experts (hExperts := Cert.Experts.Gen.facts) (hPre_experts_exist := Cert.Pre_experts_exist.Gen.facts) := by
  intro m g hpre
  have h := of_experts_exist _ _ _ _ _ _ _ (hpre 0)
  exact Cert.Experts.Tile.frame_of_ok m g (Cert.Experts.Tile.ok_of_small m h.1 h.2)

/-- So does its idealization. -/
theorem ideal_frame : quiescent_ExpertsIdeal (hExpertsIdeal := Cert.ExpertsIdeal.Gen.facts) (hPre_experts_exist := Cert.Pre_experts_exist.Gen.facts) := by
  intro m g hpre
  have h := of_experts_exist _ _ _ _ _ _ _ (hpre 0)
  exact Cert.ExpertsIdeal.Tile.frame_of_ok m g (Cert.ExpertsIdeal.Tile.ok_of_small m h.1 h.2)

theorem ideal_frame_routed : quiescent_ExpertsIdeal_pre_routed (hExpertsIdeal := Cert.ExpertsIdeal.Gen.facts) (hPre_routed := Cert.Pre_routed.Gen.facts) := by
  intro m g hpre
  have h := tables_of_routed _ _ _ _ _ _ _ (hpre 0)
  exact Cert.ExpertsIdeal.Tile.frame_of_ok m g (Cert.ExpertsIdeal.Tile.ok_of_small m h.1 h.2)

/-- The reference runs on every input. -/
theorem reference_frame : quiescent_ExpertsRefIdeal (hExpertsRefIdeal := Cert.ExpertsRefIdeal.Gen.facts) := by
  intro m g _
  refine (θ_run _ _ _).mono (fun r h => ⟨fun c => (h c).2, ?_⟩) (Cert.ExpertsRefIdeal.Value.run (F := Ideal) m g)
  funext s
  obtain ⟨_, sm⟩ := s
  rcases sm with i | i <;> exact i.elim0

theorem reference_frame_routed : quiescent_ExpertsRefIdeal_pre_routed (hExpertsRefIdeal := Cert.ExpertsRefIdeal.Gen.facts) (hPre_routed := Cert.Pre_routed.Gen.facts) :=
  fun m g _ => reference_frame m g trivial

theorem congrArgs7 {A B C D E G H R : Type} {f : A → B → C → D → E → G → H → R} {a a' : A} {b b' : B} {c c' : C} {d d' : D} {e e' : E} {g g' : G} {h h' : H}
    (ha : a = a') (hb : b = b') (hc : c = c') (hd : d = d') (he : e = e') (hg : g = g') (hh : h = h') :
    f a b c d e g h = f a' b' c' d' e' g' h' := by
  subst ha hb hc hd he hg hh
  rfl

/-- Kernel and reference end with the same array. -/
theorem experts_value : algebraic_ExpertsIdeal_ExpertsRefIdeal_pre_routed (hExpertsIdeal := Cert.ExpertsIdeal.Gen.facts) (hExpertsRefIdeal := Cert.ExpertsRefIdeal.Gen.facts) (hPre_routed := Cert.Pre_routed.Gen.facts) := by
  intro m g m' g' hpre hargs
  have hs := tables_of_routed _ _ _ _ _ _ _ (hpre 0)
  have hO : Cert.ExpertsIdeal.Tile.Ok m := Cert.ExpertsIdeal.Tile.ok_of_small m hs.1 hs.2
  refine ⟨fun c => (Cert.ExpertsIdeal.Tile.dats m hO 0 c).arrAt 7 (Cert.ExpertsIdeal.Tile.pipe m hO).N, ?_, ?_⟩
  · refine (θ_run _ _ _).mono (fun _ h c => ?_) (Cert.ExpertsIdeal.Tile.run_reads m g hO)
    obtain ⟨h0, h1, h2, h3, h4, h5, h6, hv⟩ := h.1 c
    exact ⟨hv, h0, h1, h2, h3, h4, h5, h6⟩
  · refine (θ_run _ _ _).mono (fun _ h c => ?_) (Cert.ExpertsRefIdeal.Value.run (F := Ideal) m' g')
    obtain ⟨hv, hrest⟩ := h c
    refine ⟨?_, hrest⟩
    obtain ⟨e0, e1, e2, e3, e4, e5, e6⟩ := hargs c
    have hw := fun r k q hq => gates_of_routed _ _ _ _ _ _ _ (hpre c) r k q hq
    have e := Cert.ExpertsRefIdeal.Read.val_main_v267_eq (F := Ideal) (StableHlo.launchContents m' c)
    refine hv.trans (e.trans (Eq.trans ?_ (Cert.ExpertsIdeal.Tile.array_eq m hO c hs.1 hs.2 hw).symm))
    exact congrArgs7 (f := Cert.ExpertsRefIdeal.Read.val_main_v267 (F := Ideal)) e0 e1 e2 e3 e4 e5 e6

/-- The input projection runs on every input. -/
theorem in_proj_frame : quiescent_InProj (hInProj := Cert.InProj.Gen.facts) := fun m g _ => Cert.InProj.Gen.frame m g

/-- So does its idealization. -/
theorem in_proj_ideal_frame : quiescent_InProjIdeal (hInProjIdeal := Cert.InProjIdeal.Gen.facts) := fun m g _ => Cert.InProjIdeal.Gen.frame m g

theorem in_proj_ideal_frame_finite : quiescent_InProjIdeal_pre_weights_finite (hInProjIdeal := Cert.InProjIdeal.Gen.facts) (hPre_weights_finite := Cert.Pre_weights_finite.Gen.facts) :=
  fun m g _ => Cert.InProjIdeal.Gen.frame m g

/-- So does its reference. -/
theorem in_proj_reference_frame : quiescent_InProjRefIdeal (hInProjRefIdeal := Cert.InProjRefIdeal.Gen.facts) := by
  intro m g _
  refine (θ_run _ _ _).mono (fun r h => ⟨fun c => (h c).2, ?_⟩) (Cert.InProjRefIdeal.Value.run (F := Ideal) m g)
  funext s
  obtain ⟨_, sm⟩ := s
  rcases sm with i | i <;> exact i.elim0

theorem in_proj_reference_frame_finite : quiescent_InProjRefIdeal_pre_weights_finite (hInProjRefIdeal := Cert.InProjRefIdeal.Gen.facts) (hPre_weights_finite := Cert.Pre_weights_finite.Gen.facts) :=
  fun m g _ => in_proj_reference_frame m g trivial

theorem congrArgs4 {A B C D R : Type} {f : A → B → C → D → R} {a a' : A} {b b' : B} {c c' : C} {d d' : D} (ha : a = a') (hb : b = b') (hc : c = c') (hd : d = d') :
    f a b c d = f a' b' c' d' := by
  subst ha hb hc hd
  rfl

/-- The input projection and its reference end with the same array. -/
theorem in_proj_value : algebraic_InProjIdeal_InProjRefIdeal_pre_weights_finite (hInProjIdeal := Cert.InProjIdeal.Gen.facts) (hInProjRefIdeal := Cert.InProjRefIdeal.Gen.facts) (hPre_weights_finite := Cert.Pre_weights_finite.Gen.facts) := by
  intro m g m' g' hpre hargs
  refine ⟨fun c => (Cert.InProjIdeal.Gen.dats m 0 c).arrAt 4 Cert.InProjIdeal.cfg0.N, Cert.InProjIdeal.Value.run_blocks m g, ?_⟩
  refine (θ_run _ _ _).mono (fun _ h c => ?_) (Cert.InProjRefIdeal.Value.run (F := Ideal) m' g')
  obtain ⟨hv, hrest⟩ := h c
  refine ⟨?_, hrest⟩
  obtain ⟨e0, e1, e2, e3⟩ := hargs c
  have hg := Cert.InProjPre.gains _ _ _ _ (hpre c)
  have hw := Cert.InProjPre.weights _ _ _ _ (hpre c)
  have e := Cert.InProjRefIdeal.Read.val_main_v33_eq (F := Ideal) m' c
  refine hv.trans (e.trans (Eq.trans ?_ (Cert.InProjIdeal.Tile.array_eq m c hg hw).symm))
  exact congrArgs4 (f := Cert.InProjRefIdeal.Read.val_main_v33 (F := Ideal)) e0 e1 e2 e3

/-- The convolution runs on every input. -/
theorem conv_frame : quiescent_Conv (hConv := Cert.Conv.Gen.facts) := fun m g _ => Cert.Conv.Gen.frame m g

/-- So does its idealization. -/
theorem conv_ideal_frame : quiescent_ConvIdeal (hConvIdeal := Cert.ConvIdeal.Gen.facts) := fun m g _ => Cert.ConvIdeal.Gen.frame m g

/-- So does its reference. -/
theorem conv_reference_frame : quiescent_ConvRefIdeal (hConvRefIdeal := Cert.ConvRefIdeal.Gen.facts) := by
  intro m g _
  refine (θ_run _ _ _).mono (fun r h => ⟨fun c => (h c).2, ?_⟩) (Cert.ConvRefIdeal.Value.run (F := Ideal) m g)
  funext s
  obtain ⟨_, sm⟩ := s
  rcases sm with i | i <;> exact i.elim0

theorem congrArgs5 {A B C D E R : Type} {f : A → B → C → D → E → R} {a a' : A} {b b' : B} {c c' : C} {d d' : D} {e e' : E}
    (ha : a = a') (hb : b = b') (hc : c = c') (hd : d = d') (he : e = e') : f a b c d e = f a' b' c' d' e' := by
  subst ha hb hc hd he
  rfl

/-- The convolution and its reference end with the same array. -/
theorem conv_value : algebraic_ConvIdeal_ConvRefIdeal (hConvIdeal := Cert.ConvIdeal.Gen.facts) (hConvRefIdeal := Cert.ConvRefIdeal.Gen.facts) := by
  intro m g m' g' _ hargs
  refine ⟨fun c => (Cert.ConvIdeal.Gen.dats m 0 c).arrAt 5 Cert.ConvIdeal.cfg0.N, Cert.ConvIdeal.Value.run_blocks m g, ?_⟩
  refine (θ_run _ _ _).mono (fun _ h c => ?_) (Cert.ConvRefIdeal.Value.run (F := Ideal) m' g')
  obtain ⟨hv, hrest⟩ := h c
  refine ⟨?_, hrest⟩
  obtain ⟨e0, e1, e2, e3, e4⟩ := hargs c
  have e := Cert.ConvRefIdeal.Read.val_main_v264_eq (F := Ideal) (StableHlo.launchContents m' c)
  refine hv.trans (e.trans (Eq.trans ?_ (Cert.ConvIdeal.Tile.array_eq m c).symm))
  exact congrArgs5 (f := Cert.ConvRefIdeal.Read.val_main_v264 (F := Ideal)) e0 e1 e2 e3 e4

/-- The output projection and cross-attention run on every input. -/
theorem post_frame : quiescent_Post (hPost := Cert.Post.Gen.facts) := fun m g _ => Cert.Post.Gen.frame m g

/-- So does their idealization. -/
theorem post_ideal_frame : quiescent_PostIdeal (hPostIdeal := Cert.PostIdeal.Gen.facts) := fun m g _ => Cert.PostIdeal.Gen.frame m g

theorem post_ideal_frame_apart : quiescent_PostIdeal_pre_memory_apart (hPostIdeal := Cert.PostIdeal.Gen.facts) (hPre_memory_apart := Cert.Pre_memory_apart.Gen.facts) :=
  fun m g _ => Cert.PostIdeal.Gen.frame m g

/-- So does their reference. -/
theorem post_reference_frame : quiescent_PostRefIdeal (hPostRefIdeal := Cert.PostRefIdeal.Gen.facts) := by
  intro m g _
  refine (θ_run _ _ _).mono (fun r h => ⟨fun c => (h c).2, ?_⟩) (Cert.PostRefIdeal.Value.run (F := Ideal) m g)
  funext s
  obtain ⟨_, sm⟩ := s
  rcases sm with i | i <;> exact i.elim0

theorem post_reference_frame_apart : quiescent_PostRefIdeal_pre_memory_apart (hPostRefIdeal := Cert.PostRefIdeal.Gen.facts) (hPre_memory_apart := Cert.Pre_memory_apart.Gen.facts) :=
  fun m g _ => post_reference_frame m g trivial

theorem congrArgs11 {A B C D E G H I J K L R : Type} {f : A → B → C → D → E → G → H → I → J → K → L → R} {a a' : A} {b b' : B} {c c' : C} {d d' : D} {e e' : E} {g g' : G}
    {h h' : H} {i i' : I} {j j' : J} {k k' : K} {l l' : L} (ha : a = a') (hb : b = b') (hc : c = c') (hd : d = d') (he : e = e') (hg : g = g') (hh : h = h') (hi : i = i')
    (hj : j = j') (hk : k = k') (hl : l = l') : f a b c d e g h i j k l = f a' b' c' d' e' g' h' i' j' k' l' := by
  subst ha hb hc hd he hg hh hi hj hk hl
  rfl

/-- The output projection and cross-attention end with the same first array as their reference. -/
theorem post_value : algebraic_PostIdeal_PostRefIdeal_pre_memory_apart (hPostIdeal := Cert.PostIdeal.Gen.facts) (hPostRefIdeal := Cert.PostRefIdeal.Gen.facts) (hPre_memory_apart := Cert.Pre_memory_apart.Gen.facts) := by
  intro m g m' g' hpre hargs
  refine ⟨fun c => (Cert.PostIdeal.Gen.dats m 0 c).arrAt 16 Cert.PostIdeal.cfg0.N, ?_, ?_⟩
  · refine (θ_run _ _ _).mono (fun _ h c => ?_) (Cert.PostIdeal.Value.run_blocks m g)
    obtain ⟨hv, _, _, hrest⟩ := h c
    exact ⟨hv, hrest⟩
  · refine (θ_run _ _ _).mono (fun _ h c => ?_) (Cert.PostRefIdeal.Value.run (F := Ideal) m' g')
    obtain ⟨hv, hrest⟩ := h c
    refine ⟨?_, hrest⟩
    obtain ⟨e0, e1, e2, e3, e4, e5, e6, e7, e8, e9, e10, _⟩ := hargs c
    have hg := Cert.PostPre.gains _ _ _ _ _ _ _ _ _ _ _ _ _ _ (hpre c)
    have hw := Cert.PostPre.weights _ _ _ _ _ _ _ _ _ _ _ _ _ _ (hpre c)
    have hh := Cert.PostPre.headGains _ _ _ _ _ _ _ _ _ _ _ _ _ _ (hpre c)
    have hk := Cert.PostPre.keys _ _ _ _ _ _ _ _ _ _ _ _ _ _ (hpre c)
    have hK := Cert.PostPre.keys_apart _ _ _ _ _ _ _ _ _ _ _ _ _ _ (hpre c)
    have hV := Cert.PostPre.values_apart _ _ _ _ _ _ _ _ _ _ _ _ _ _ (hpre c)
    rw [← Cert.PostIdeal.Gen.V_main_arg5 m c] at hg
    rw [← Cert.PostIdeal.Gen.V_main_arg6 m c] at hw
    rw [← Cert.PostIdeal.Gen.V_main_arg7 m c] at hh
    rw [← Cert.PostIdeal.Gen.V_main_arg8 m c] at hk hK
    rw [← Cert.PostIdeal.Gen.V_main_arg9 m c] at hV
    have e := Cert.PostRefIdeal.Read.val_main_v81_eq (F := Ideal) m' c
    refine hv.trans (e.trans (Eq.trans ?_ (Cert.PostIdeal.Tile.array_eq m c hg hw hh hk hK hV).symm))
    exact congrArgs11 (f := Cert.PostRefIdeal.Read.val_main_v81 (F := Ideal)) (e0.trans (Cert.PostIdeal.Gen.V_main_arg0 m c).symm) (e1.trans (Cert.PostIdeal.Gen.V_main_arg1 m c).symm)
      (e2.trans (Cert.PostIdeal.Gen.V_main_arg2 m c).symm) (e3.trans (Cert.PostIdeal.Gen.V_main_arg3 m c).symm) (e4.trans (Cert.PostIdeal.Gen.V_main_arg4 m c).symm)
      (e5.trans (Cert.PostIdeal.Gen.V_main_arg5 m c).symm) (e6.trans (Cert.PostIdeal.Gen.V_main_arg6 m c).symm) (e7.trans (Cert.PostIdeal.Gen.V_main_arg7 m c).symm)
      (e8.trans (Cert.PostIdeal.Gen.V_main_arg8 m c).symm) (e9.trans (Cert.PostIdeal.Gen.V_main_arg9 m c).symm) (e10.trans (Cert.PostIdeal.Gen.V_main_arg10 m c).symm)

theorem claim : Cert.Claim := ⟨Cert.Experts.Gen.facts, Cert.ExpertsIdeal.Gen.facts, Cert.ExpertsRefIdeal.Gen.facts, Cert.InProj.Gen.facts, Cert.InProjIdeal.Gen.facts,
  Cert.InProjRefIdeal.Gen.facts, Cert.Conv.Gen.facts, Cert.ConvIdeal.Gen.facts, Cert.ConvRefIdeal.Gen.facts, Cert.Post.Gen.facts, Cert.PostIdeal.Gen.facts, Cert.PostRefIdeal.Gen.facts,
  Cert.Pre_experts_exist.Gen.facts, Cert.Pre_routed.Gen.facts, Cert.Pre_weights_finite.Gen.facts, Cert.Pre_memory_apart.Gen.facts,
  experts_frame, ideal_frame, ideal_frame_routed, reference_frame, reference_frame_routed,
  in_proj_frame, in_proj_ideal_frame, in_proj_ideal_frame_finite, in_proj_reference_frame, in_proj_reference_frame_finite,
  conv_frame, conv_ideal_frame, conv_reference_frame, post_frame, post_ideal_frame, post_ideal_frame_apart, post_reference_frame, post_reference_frame_apart,
  trivial, experts_value, trivial, in_proj_value, trivial, conv_value, trivial, post_value⟩

end Cert.Proof

end
